-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x64 : Shape := ⟨4, ![1, 16, 2048, 64]⟩
abbrev S1x16x64x2048 : Shape := ⟨4, ![1, 16, 64, 2048]⟩
abbrev S1x2x64x2048 : Shape := ⟨4, ![1, 2, 64, 2048]⟩
abbrev S256x256 : Shape := ⟨2, ![256, 256]⟩
abbrev S1x1x64x2048 : Shape := ⟨4, ![1, 1, 64, 2048]⟩
abbrev S64x2048 : Shape := ⟨2, ![64, 2048]⟩
abbrev S1x2048 : Shape := ⟨2, ![1, 2048]⟩
abbrev S65x2048 : Shape := ⟨2, ![65, 2048]⟩
abbrev S64x256 : Shape := ⟨2, ![64, 256]⟩
abbrev S65x256 : Shape := ⟨2, ![65, 256]⟩
abbrev S1x256 : Shape := ⟨2, ![1, 256]⟩
abbrev S1x1x64x256 : Shape := ⟨4, ![1, 1, 64, 256]⟩
abbrev S64x512 : Shape := ⟨2, ![64, 512]⟩
abbrev S256x512 : Shape := ⟨2, ![256, 512]⟩
abbrev S65x512 : Shape := ⟨2, ![65, 512]⟩
abbrev S64x768 : Shape := ⟨2, ![64, 768]⟩
abbrev S256x768 : Shape := ⟨2, ![256, 768]⟩
abbrev S65x768 : Shape := ⟨2, ![65, 768]⟩
abbrev S64x1024 : Shape := ⟨2, ![64, 1024]⟩
abbrev S256x1024 : Shape := ⟨2, ![256, 1024]⟩
abbrev S65x1024 : Shape := ⟨2, ![65, 1024]⟩
abbrev S1024x1024 : Shape := ⟨2, ![1024, 1024]⟩
abbrev S64x128 : Shape := ⟨2, ![64, 128]⟩
abbrev S64x384 : Shape := ⟨2, ![64, 384]⟩
abbrev S128x384 : Shape := ⟨2, ![128, 384]⟩
abbrev S128x1024 : Shape := ⟨2, ![128, 1024]⟩
abbrev S65x128 : Shape := ⟨2, ![65, 128]⟩
abbrev S65x384 : Shape := ⟨2, ![65, 384]⟩
abbrev S1x128 : Shape := ⟨2, ![1, 128]⟩
abbrev S1x1x64x128 : Shape := ⟨4, ![1, 1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x64x2048, .f32⟩
  | .hbm, ⟨4, _⟩ => ⟨S1x16x64x2048, .f32⟩
  | .hbm, ⟨5, _⟩ => ⟨S1x16x64x2048, .f32⟩
  | .hbm, ⟨6, _⟩ => ⟨S1x16x64x2048, .f32⟩
  | .hbm, ⟨7, _⟩ => ⟨S1x16x2048x64, .f32⟩
  | .local _ .vmem, ⟨0, _⟩ => ⟨S1x2x64x2048, .f32⟩
  | .local _ .vmem, ⟨1, _⟩ => ⟨S1x2x64x2048, .f32⟩
  | .local _ .vmem, ⟨2, _⟩ => ⟨S1x2x64x2048, .f32⟩
  | .local _ .vmem, ⟨3, _⟩ => ⟨S1x2x64x2048, .f32⟩
  | .local _ .vmem, ⟨4, _⟩ => ⟨S1x2x64x2048, .f32⟩
  | .local _ .vmem, ⟨5, _⟩ => ⟨S1x2x64x2048, .f32⟩
  | .local _ .vmem, ⟨6, _⟩ => ⟨S1x2x64x2048, .f32⟩
  | .local _ .vmem, ⟨7, _⟩ => ⟨S1x2x64x2048, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S1x16x2048x64 : Shape := ⟨4, ![1, 16, 2048, 64]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 138
  | .vmem => 0
  | .smem => 0
  | _ => 0

abbrev hbmTy0_0 (i : Nat) : BufTy := match i % 128 with
  | 0 => ⟨S1x16x2048x64, .f32⟩
  | 1 => ⟨S1x16x2048x64, .f32⟩
  | 2 => ⟨S1x16x2048x64, .f32⟩
  | 3 => ⟨S2048, .i32⟩
  | 4 => ⟨S_, .i32⟩
  | 5 => ⟨S2048, .i32⟩
  | 6 => ⟨S2048, .i1⟩
  | 7 => ⟨S2048, .i32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S_, .i32⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S2048, .i32⟩
  | 23 => ⟨S2048, .i32⟩
  | 24 => ⟨S_, .i32⟩
  | 25 => ⟨S2048, .i32⟩
  | 26 => ⟨S2048, .i1⟩
  | 27 => ⟨S2048, .i1⟩
  | 28 => ⟨S_, .i32⟩
  | 29 => ⟨S2048, .i32⟩
  | 30 => ⟨S2048, .i32⟩
  | 31 => ⟨S2048, .i32⟩
  | 32 => ⟨S_, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i1⟩
  | 39 => ⟨S_, .i32⟩
  | 40 => ⟨S2048, .i32⟩
  | 41 => ⟨S2048, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i1⟩
  | 53 => ⟨S_, .i32⟩
  | 54 => ⟨S2048, .i32⟩
  | 55 => ⟨S2048, .i1⟩
  | 56 => ⟨S_, .i32⟩
  | 57 => ⟨S_, .i1⟩
  | 58 => ⟨S2048, .i1⟩
  | 59 => ⟨S2048, .i1⟩
  | 60 => ⟨S2048, .i1⟩
  | 61 => ⟨S2048, .i32⟩
  | 62 => ⟨S2048, .i32⟩
  | 63 => ⟨S2048, .i32⟩
  | 64 => ⟨S_, .i32⟩
  | 65 => ⟨S_, .i32⟩
  | 66 => ⟨S2048, .i32⟩
  | 67 => ⟨S2048, .i32⟩
  | 68 => ⟨S2048x1, .i32⟩
  | 69 => ⟨S1x2048, .i32⟩
  | 70 => ⟨S2048x2048, .i32⟩
  | 71 => ⟨S2048x2048, .i32⟩
  | 72 => ⟨S2048x2048, .i1⟩
  | 73 => ⟨S2048x1, .i32⟩
  | 74 => ⟨S1x2048, .i32⟩
  | 75 => ⟨S2048x2048, .i32⟩
  | 76 => ⟨S2048x2048, .i32⟩
  | 77 => ⟨S2048x2048, .i1⟩
  | 78 => ⟨S_, .i32⟩
  | 79 => ⟨S2048, .i32⟩
  | 80 => ⟨S2048, .i1⟩
  | 81 => ⟨S2048x1, .i1⟩
  | 82 => ⟨S2048x1, .i32⟩
  | 83 => ⟨S1x2048, .i32⟩
  | 84 => ⟨S2048x2048, .i32⟩
  | 85 => ⟨S2048x2048, .i32⟩
  | 86 => ⟨S2048x2048, .i1⟩
  | 87 => ⟨S2048x2048, .i1⟩
  | 88 => ⟨S2048x2048, .i1⟩
  | 89 => ⟨S2048x1, .i32⟩
  | 90 => ⟨S1x2048, .i32⟩
  | 91 => ⟨S2048x2048, .i32⟩
  | 92 => ⟨S2048x2048, .i32⟩
  | 93 => ⟨S2048x2048, .i32⟩
  | 94 => ⟨S2048x2048, .f32⟩
  | 95 => ⟨S2048x1, .i32⟩
  | 96 => ⟨S1x2048, .i32⟩
  | 97 => ⟨S2048x2048, .i32⟩
  | 98 => ⟨S2048x2048, .i32⟩
  | 99 => ⟨S2048x2048, .i32⟩
  | 100 => ⟨S2048x2048, .f32⟩
  | 101 => ⟨S2048x2048, .f32⟩
  | 102 => ⟨S2048x2048, .f32⟩
  | 103 => ⟨S2048x2048, .f32⟩
  | 104 => ⟨S_, .f32⟩
  | 105 => ⟨S2048x2048, .f32⟩
  | 106 => ⟨S2048x2048, .i1⟩
  | 107 => ⟨S2048x2048, .i1⟩
  | 108 => ⟨S2048x2048, .i1⟩
  | 109 => ⟨S2048x2048, .i1⟩
  | 110 => ⟨S_, .f32⟩
  | 111 => ⟨S_, .f32⟩
  | 112 => ⟨S_, .f32⟩
  | 113 => ⟨S_, .f32⟩
  | 114 => ⟨S1x16x2048x2048, .f32⟩
  | 115 => ⟨S1x16x2048x2048, .f32⟩
  | 116 => ⟨S1x16x2048x2048, .f32⟩
  | 117 => ⟨S1x1x2048x2048, .i1⟩
  | 118 => ⟨S_, .f32⟩
  | 119 => ⟨S_, .f32⟩
  | 120 => ⟨S1x16x2048x2048, .i1⟩
  | 121 => ⟨S1x16x2048x2048, .f32⟩
  | 122 => ⟨S1x16x2048x2048, .f32⟩
  | 123 => ⟨S_, .f32⟩
  | 124 => ⟨S1x16x2048, .f32⟩
  | 125 => ⟨S_, .f32⟩
  | 126 => ⟨S1x16x2048, .f32⟩
  | 127 => ⟨S1x16x2048, .f32⟩
  | _ => ⟨S1x16x2048x64, .f32⟩

abbrev hbmTy0_1 (i : Nat) : BufTy := match i % 128 with
  | 0 => ⟨S1x16x2048x1, .f32⟩
  | 1 => ⟨S1x16x2048x2048, .f32⟩
  | 2 => ⟨S1x16x2048x2048, .f32⟩
  | 3 => ⟨S1x16x2048x2048, .f32⟩
  | 4 => ⟨S_, .f32⟩
  | 5 => ⟨S1x16x2048, .f32⟩
  | 6 => ⟨S1x16x2048x1, .f32⟩
  | 7 => ⟨S1x16x2048x2048, .f32⟩
  | 8 => ⟨S1x16x2048x2048, .f32⟩
  | 9 => ⟨S1x16x2048x64, .f32⟩
  | _ => ⟨S1x16x2048x64, .f32⟩

abbrev hbmTy (i : Nat) : BufTy := match i / 128 with
  | 0 => hbmTy0_0 i
  | 1 => hbmTy0_1 i
  | _ => ⟨S1x16x2048x64, .f32⟩

abbrev bufTy : (tb : Table) → Fin (tcTables nBuf tb) → BufTy
  | .hbm, ⟨i, _⟩ => hbmTy i
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_c_4 : Ref sig .tc := ⟨.hbm, 36, rfl⟩
abbrev main_v10 : Ref sig .tc := ⟨.hbm, 37, rfl⟩
abbrev main_v11 : Ref sig .tc := ⟨.hbm, 38, rfl⟩
abbrev main_c_5 : Ref sig .tc := ⟨.hbm, 39, rfl⟩
abbrev main_v12 : Ref sig .tc := ⟨.hbm, 40, rfl⟩
abbrev main_v13 : Ref sig .tc := ⟨.hbm, 41, rfl⟩
abbrev main_c_6 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v14 : Ref sig .tc := ⟨.hbm, 63, rfl⟩
abbrev main_c_7 : Ref sig .tc := ⟨.hbm, 64, rfl⟩
abbrev main_call3_v0 : Ref sig .tc := ⟨.hbm, 65, rfl⟩
abbrev main_call3_v1 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_c_8 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_11 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v62 : Ref sig .tc := ⟨.hbm, 122, rfl⟩
abbrev main_cst_12 : Ref sig .tc := ⟨.hbm, 123, rfl⟩
abbrev main_v63 : Ref sig .tc := ⟨.hbm, 124, rfl⟩
abbrev main_cst_13 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_14 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩

abbrev nD : Nat := 1
abbrev τ : Topo := Topo.v7x

variable {F : FTy → Type} [FloatOps F]
-- ==== Proof.Frames.lean ====
/- The claims about the programs alone: each of the three programs runs, keeps its arguments and ends with every counter
   at zero; and the kernel with named constants is the kernel. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import Idealize.ShloMosaic.Adequacy
public import Idealize.ShloMosaic.Init

@[expose] public section

noncomputable section

namespace Cert.Claims

open Idealize.ShloMosaic Idealize.SL.Sem

/-- The printed kernel runs on words, keeps its arguments and ends with every counter at zero. -/
theorem kernel_runs : Cert.quiescent_Kernel := fun m ρ _ => Cert.Kernel.Gen.frame m ρ

/-- The kernel over extended reals runs, keeps its arguments and ends with every counter at zero. -/
theorem ideal_runs : Cert.quiescent_KernelIdeal := fun m ρ _ => Cert.KernelIdeal.Gen.frame m ρ

/-- The reference over extended reals runs, keeps its arguments and ends with every counter at zero. -/
theorem reference_runs : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The scale literal is named by the real number it rounds, the mask literal by −∞. -/
theorem names_hold : Cert.preserves_Kernel_KernelIdeal :=
  ⟨IdealRules.named_const.statement Cert.KernelIdeal.κ "scale" .f32 0x3E38AA3B#32 (((8 * (Real.log 2))⁻¹ : ℝ) : EReal) rfl,
    IdealRules.named_const.statement Cert.KernelIdeal.κ "mask" .f32 0xF149F2CA#32 ⊥ rfl⟩

end Cert.Claims

end
-- ==== Proof.Spec.lean ====
/- What one head computes, in plain terms: which keys a query keeps, the weight of a key, and the weighted mean of the
   values. Positions 0 … 1023 are the text span and 1024 … 2047 a 32 × 32 image, row by row. -/
module

public import Idealize.ShloMosaic.PureOps.Ideal
public import Idealize.ShloMosaic.Lib.Pointwise

@[expose] public section

noncomputable section

namespace Cert.Attn

open Idealize.ShloMosaic

/-- Two pixels of the image are at a squared distance of at most 6 (a distance below 2.5). -/
def near (p k : ℕ) : Prop :=
  (((p / 32 : ℕ) : ℤ) - ((k / 32 : ℕ) : ℤ)) ^ 2 + (((p % 32 : ℕ) : ℤ) - ((k % 32 : ℕ) : ℤ)) ^ 2 ≤ 6

instance (p k : ℕ) : Decidable (near p k) := inferInstanceAs (Decidable (_ ≤ _))

/-- Query `r` keeps key `c`: a text query keeps the text up to itself; an image query keeps all the text and the pixels
    near it. -/
def keep (r c : ℕ) : Prop :=
  (c < 1024 ∧ (1024 ≤ r ∨ c ≤ r)) ∨ (1024 ≤ r ∧ 1024 ≤ c ∧ near (r - 1024) (c - 1024))

instance (r c : ℕ) : Decidable (keep r c) := inferInstanceAs (Decidable (_ ∨ _))

/-- A matrix of `a` rows and `b` columns of extended reals. -/
abbrev Mat (a b : ℕ) : Type := (⟨2, ![a, b]⟩ : Shape).Idx → EReal

/-- The score of query `r` against key `c`: the product of column `r` of `q` and column `c` of `k`. -/
def score (q k : Mat 64 2048) (r c : Fin 2048) : EReal := ∑ e : Fin 64, q (ix2 e r) * k (ix2 e c)

/-- The weight of key `c` for query `r`: 2 to the score if the key is kept, else nothing. -/
def weight (q k : Mat 64 2048) (r c : Fin 2048) : EReal :=
  if keep r.val c.val then Ideal.exp2 (score q k r c) else 0

/-- The weighted sum of a row `x` of values under the weights of query `r`. -/
def mass (q k : Mat 64 2048) (x : Fin 2048 → EReal) (r : Fin 2048) : EReal :=
  ∑ c : Fin 2048, x c * weight q k r c

/-- The head's output at feature `d` and query `r`: row `d` of the 65 rows `v` weighted, over row 64 weighted. -/
def headOut (q k : Mat 64 2048) (v : Mat 65 2048) (d : Fin 64) (r : Fin 2048) : EReal :=
  Ideal.div (mass q k (fun c => v (ix2 (d.castLE (by decide)) c)) r) (mass q k (fun c => v (ix2 64 c)) r)

/-- A sum over all keys of a function that is zero outside a window of keys is the sum over the window. -/
theorem sum_window {n : ℕ} (o : ℕ) (h : o + n ≤ 2048) (f : Fin 2048 → EReal)
    (hz : ∀ c : Fin 2048, ¬ (o ≤ c.val ∧ c.val < o + n) → f c = 0) :
    ∑ j : Fin n, f ⟨o + j.val, by omega⟩ = ∑ c : Fin 2048, f c := by
  classical
  let g : Fin n → Fin 2048 := fun j => ⟨o + j.val, by omega⟩
  have hg : Function.Injective g := fun a b e => Fin.ext (by have := congrArg Fin.val e; simp only [g] at this; omega)
  rw [← Finset.sum_subset (Finset.subset_univ (Finset.univ.map ⟨g, hg⟩)), Finset.sum_map]
  · rfl
  · intro c _ hc
    refine hz c fun hw => hc ?_
    exact Finset.mem_map.2 ⟨⟨c.val - o, by omega⟩, Finset.mem_univ _, Fin.ext (by simp [g]; omega)⟩

/-- A sum over all keys, in two windows outside of which the function is zero: the text and a window of the image. -/
theorem sum_two_windows {n : ℕ} (o : ℕ) (h₀ : 1024 ≤ o) (h : o + n ≤ 2048) (f : Fin 2048 → EReal)
    (hz : ∀ c : Fin 2048, 1024 ≤ c.val → ¬ (o ≤ c.val ∧ c.val < o + n) → f c = 0) :
    ∑ j : Fin 1024, f ⟨j.val, by omega⟩ + ∑ j : Fin n, f ⟨o + j.val, by omega⟩ = ∑ c : Fin 2048, f c := by
  have e₁ := sum_window (n := 1024) 0 (by decide) (fun c => if c.val < 1024 then f c else 0)
    (fun c hc => if_neg (by omega))
  have e₂ := sum_window (n := n) o h (fun c => if c.val < 1024 then 0 else f c)
    (fun c hc => by
      by_cases hh : c.val < 1024
      · exact if_pos hh
      · simp only [if_neg hh]; exact hz c (by omega) hc)
  have s₁ : ∑ j : Fin 1024, f ⟨j.val, by omega⟩ = ∑ c : Fin 2048, (if c.val < 1024 then f c else 0) := by
    rw [← e₁]
    exact Finset.sum_congr rfl fun j _ => by
      have hj := j.isLt
      simp only [Nat.zero_add, if_pos hj]
  have s₂ : ∑ j : Fin n, f ⟨o + j.val, by omega⟩ = ∑ c : Fin 2048, (if c.val < 1024 then 0 else f c) := by
    rw [← e₂]
    exact Finset.sum_congr rfl fun j _ => by
      simp only [if_neg (show ¬ (o + j.val < 1024) by omega)]
  rw [s₁, s₂, ← Finset.sum_add_distrib]
  refine Finset.sum_congr rfl fun c _ => ?_
  by_cases hh : c.val < 1024 <;> simp [hh]

end Cert.Attn

end
-- ==== Proof.TextTile.lean ====
/- One tile of 256 text queries: the weights over the keys up to the tile's end, and the quotient of the weighted sums. -/
module

public import proofs.«01_k».proof.Proof.Spec
public import proofs.«01_k».proof.Proof.Gen.KernelIdeal
public import Idealize.ShloMosaic.Lib.Pointwise
public import Idealize.ShloMosaic.Lib.MatmulPlain
public import Idealize.ShloMosaic.Lib.WordCmp

@[expose] public section

set_option maxRecDepth 16384

noncomputable section

namespace Cert.Attn

open Idealize.ShloMosaic Idealize.ShloMosaic.TcCoe Idealize.SL.Sem
open Cert.KernelIdeal Cert.KernelIdeal.Facts₀

/-- The shape of `a` rows and `b` columns. -/
abbrev Sh (a b : ℕ) : Shape := ⟨2, ![a, b]⟩

/-- The product of the columns of two matrices of 64 rows: entry (i, j) sums column i of one times column j of the other. -/
abbrev colDot (a b : ℕ) (wf : DotDims.WF (Sh 64 a) (Sh 64 b) (Sh a b) [0] [0] [1] [1] [] []) : DotDims (Sh 64 a) (Sh 64 b) (Sh a b) :=
  { lhsContracting := [0], rhsContracting := [0], lhsNonContracting := [1], rhsNonContracting := [1], lhsBatch := [], rhsBatch := [], wf := wf }

/-- A product of columns at an entry. -/
theorem colDot_apply {a b : ℕ} {wf : DotDims.WF (Sh 64 a) (Sh 64 b) (Sh a b) [0] [0] [1] [1] [] []}
    (x : FVec Ideal (Sh 64 a) .bf16) (y : FVec Ideal (Sh 64 b) .bf16) (z : FVec Ideal (Sh a b) .f32) (i : Fin a) (j : Fin b) :
    matmul (colDot a b wf) none x y z (ix2 i j) = z (ix2 i j) + ∑ e : Fin 64, x (ix2 e i) * y (ix2 e j) := by
  refine Ideal.matmul_apply₁_of (colDot a b wf) (a := 0) rfl rfl x y z (ix2 i j) (fun e => ix2 e i) (fun e => ix2 e j) ?_ ?_ <;>
    (intro e; funext c; match c with
      | ⟨0, _⟩ => rfl
      | ⟨1, _⟩ => rfl)

/-- The product of the rows of two matrices at an entry. -/
theorem rowDot_apply {a b n : ℕ} (x : FVec Ideal (Sh a n) .bf16) (y : FVec Ideal (Sh b n) .bf16) (z : FVec Ideal (Sh a b) .f32)
    (i : Fin a) (j : Fin b) :
    matmul (DotDims.transposedRhs a n b) none x y z (ix2 i j) = z (ix2 i j) + ∑ e : Fin n, x (ix2 i e) * y (ix2 j e) :=
  Ideal.matmul_transposedRhs_apply none x y z i j

/-- A block of a matrix at an entry. -/
theorem block_apply {α : Type} {a b a' b' o₁ o₂ : ℕ} (h : (Sh a b).Slices ![o₁, o₂] (Sh a' b')) (x : (Sh a b).Idx → α) (i : Fin a')
    (j : Fin b') :
    extractStridedSlice (Sh a' b') ![o₁, o₂] x h (ix2 i j) =
      x (ix2 ⟨o₁ + i.val, Nat.lt_of_lt_of_le (Nat.add_lt_add_left i.isLt _) (h.2 0)⟩
        ⟨o₂ + j.val, Nat.lt_of_lt_of_le (Nat.add_lt_add_left j.isLt _) (h.2 1)⟩) := by
  refine congrArg x (funext fun c => ?_)
  match c with
  | ⟨0, _⟩ => rfl
  | ⟨1, _⟩ => rfl

/-- Two matrices side by side at an entry. -/
theorem beside_apply {α : Type} {n a b c : ℕ} (h : Shape.Concatenates [Sh n a, Sh n b] (Sh n c) 1) (x : (Sh n a).Idx → α)
    (y : (Sh n b).Idx → α) (hc : c = a + b) (i : Fin n) (j : Fin c) :
    concatenate (Sh n c) 1 [⟨Sh n a, x⟩, ⟨Sh n b, y⟩] h (ix2 i j) =
      if hj : j.val < a then x (ix2 i ⟨j.val, hj⟩) else y (ix2 i ⟨j.val - a, by omega⟩) := by
  rw [concatenate_pair_apply]
  by_cases hj : j.val < a
  · rw [dif_pos hj, dif_pos (by exact hj)]
    refine congrArg x (funext fun c => ?_)
    match c with
    | ⟨0, _⟩ => rfl
    | ⟨1, _⟩ => rfl
  · rw [dif_neg hj, dif_neg (by exact hj)]
    refine congrArg y (funext fun c => ?_)
    match c with
    | ⟨0, _⟩ => rfl
    | ⟨1, _⟩ => rfl

/-- The weighted sums of 65 rows over the first `w` keys. -/
def textSums (w : ℕ) (hv : S65x2048.Slices ![0, 0] (Sh 65 w)) (v : FVec Ideal S65x2048 .bf16) (p : FVec Ideal (Sh 256 w) .bf16) :
    FVec Ideal S65x256 .f32 :=
  matmul (DotDims.transposedRhs 65 w 256) none (extractStridedSlice (Sh 65 w) ![0, 0] v hv) p (constant S65x256 .f32 0x00000000#32)

/-- A weighted sum of `textSums`. -/
theorem textSums_apply {w : ℕ} (hv : S65x2048.Slices ![0, 0] (Sh 65 w)) (v : FVec Ideal S65x2048 .bf16) (p : FVec Ideal (Sh 256 w) .bf16)
    (hw : w ≤ 2048) (d : Fin 65) (i : Fin 256) :
    textSums w hv v p (ix2 d i) = ∑ j : Fin w, v (ix2 d ⟨j.val, by omega⟩) * p (ix2 i j) := by
  unfold textSums
  rw [rowDot_apply]
  simp only [block_apply, Nat.zero_add]
  simp [constant]

/-- The quotient of the first 64 rows by row 64, in the block's shape. -/
def textQuotient (z : FVec Ideal S65x256 .f32) : FVec Ideal S1x1x64x256 .f32 :=
  shapeCast S1x1x64x256 (divf (extractStridedSlice S64x256 ![0, 0] z slices_S65x256_o0_0_S64x256)
    (broadcastTo S64x256 (extractStridedSlice S1x256 ![64, 0] z slices_S65x256_o64_0_S1x256) broadcasts_S1x256_S64x256))
    shapeCasts_S64x256_S1x1x64x256

/-- An entry of `textQuotient`. -/
theorem textQuotient_apply (z : FVec Ideal S65x256 .f32) (d : Fin 64) (i : Fin 256) :
    textQuotient z (ix4 0 0 d i) = Ideal.div (z (ix2 (d.castLE (by decide)) i)) (z (ix2 64 i)) := by
  unfold textQuotient
  pointwise
  rfl

/-- The scores of the tile of queries that begins at `o` against the first `w` keys. -/
def textScores (o w : ℕ) (hq : S64x2048.Slices ![0, o] S64x256) (hk : S64x2048.Slices ![0, 0] (Sh 64 w))
    (wf : DotDims.WF (Sh 64 256) (Sh 64 w) (Sh 256 w) [0] [0] [1] [1] [] []) (q k : FVec Ideal S64x2048 .bf16) :
    FVec Ideal (Sh 256 w) .f32 :=
  matmul (colDot 256 w wf) none (extractStridedSlice S64x256 ![0, o] q hq) (extractStridedSlice (Sh 64 w) ![0, 0] k hk)
    (constant (Sh 256 w) .f32 0x00000000#32)

/-- An entry of `textScores`. -/
theorem textScores_apply {o w : ℕ} (hq : S64x2048.Slices ![0, o] S64x256) (hk : S64x2048.Slices ![0, 0] (Sh 64 w))
    (wf : DotDims.WF (Sh 64 256) (Sh 64 w) (Sh 256 w) [0] [0] [1] [1] [] []) (q k : FVec Ideal S64x2048 .bf16) (ho : o + 256 ≤ 2048)
    (hw : w ≤ 2048) (i : Fin 256) (j : Fin w) :
    textScores o w hq hk wf q k (ix2 i j) = score q k ⟨o + i.val, by omega⟩ ⟨j.val, by omega⟩ := by
  unfold textScores score
  rw [colDot_apply]
  simp only [block_apply, Nat.zero_add]
  simp [constant]

/-- The scores of a diagonal block of 256 queries and 256 keys, those past the query taken out. -/
def masked (s : FVec Ideal S256x256 .f32) : FVec Ideal S256x256 .f32 :=
  select (cmpi .sge (iota .tc S256x256 32 [0] iota_S256x256_d0_w32) (iota .tc S256x256 32 [1] iota_S256x256_d1_w32)) s
    (broadcast S256x256 (Named.named κ "mask" 0xF149F2CA#32))

/-- An entry of `masked`. -/
theorem masked_apply (s : FVec Ideal S256x256 .f32) (i j : Fin 256) :
    masked s (ix2 i j) = if j.val ≤ i.val then s (ix2 i j) else ⊥ := by
  unfold masked
  pointwise
  have hi := i.isLt
  have hj := j.isLt
  have hc : IntOp.cmpi CmpIPredicate.sge (BitVec.ofNat 32 i.val) (BitVec.ofNat 32 j.val) = 1 ↔ j.val ≤ i.val :=
    WordCmp.cmpi_sge_ofNat_eq_one_iff (by norm_num; omega) (by norm_num; omega)
  simp only [Scalar.select, hc]
  rfl

/-- Two to the power ⊥ is nothing. -/
theorem exp2_bot : Ideal.exp2 ⊥ = 0 := rfl

/-- The weights of the first tile: its block is the diagonal one. -/
def firstWeights (s : FVec Ideal S256x256 .f32) : FVec Ideal S256x256 .bf16 := truncf .bf16 (exp2 (masked s)) bitsLt_bf16_f32

/-- An entry of `firstWeights`. -/
theorem firstWeights_apply (s : FVec Ideal S256x256 .f32) (i j : Fin 256) :
    firstWeights s (ix2 i j) = if j.val ≤ i.val then Ideal.exp2 (s (ix2 i j)) else 0 := by
  show Ideal.exp2 (masked s (ix2 i j)) = _
  rw [masked_apply, apply_ite Ideal.exp2, exp2_bot]

/-- The weights of a later tile: the block's last 256 columns are the diagonal ones. -/
def laterWeights (l w : ℕ) (hl : (Sh 256 w).Slices ![0, 0] (Sh 256 l)) (hd : (Sh 256 w).Slices ![0, l] S256x256)
    (hc : Shape.Concatenates [Sh 256 l, S256x256] (Sh 256 w) 1) (s : FVec Ideal (Sh 256 w) .f32) : FVec Ideal (Sh 256 w) .bf16 :=
  truncf .bf16 (exp2 (concatenate (Sh 256 w) 1 [⟨Sh 256 l, extractStridedSlice (Sh 256 l) ![0, 0] s hl⟩,
    ⟨S256x256, masked (extractStridedSlice S256x256 ![0, l] s hd)⟩] hc)) bitsLt_bf16_f32

/-- An entry of `laterWeights`: two to the score where the column is at most the query's own. -/
theorem laterWeights_apply {l w : ℕ} (hl : (Sh 256 w).Slices ![0, 0] (Sh 256 l)) (hd : (Sh 256 w).Slices ![0, l] S256x256)
    (hc : Shape.Concatenates [Sh 256 l, S256x256] (Sh 256 w) 1) (s : FVec Ideal (Sh 256 w) .f32) (hw : w = l + 256) (i : Fin 256)
    (j : Fin w) :
    laterWeights l w hl hd hc s (ix2 i j) = if j.val ≤ l + i.val then Ideal.exp2 (s (ix2 i j)) else 0 := by
  refine (congrArg Ideal.exp2 (beside_apply hc _ _ hw i j)).trans ?_
  by_cases hj : j.val < l
  · rw [dif_pos hj, if_pos (by omega), block_apply]
    simp only [Nat.zero_add]
  · rw [dif_neg hj, masked_apply, block_apply, apply_ite Ideal.exp2, exp2_bot]
    have e : l + (j.val - l) = j.val := by omega
    have e' : j.val - l ≤ i.val ↔ j.val ≤ l + i.val := by omega
    simp only [Nat.zero_add, e, e']

/-- A text query's kept keys are those up to itself. -/
theorem keep_text {r c : ℕ} (hr : r < 1024) : keep r c ↔ c ≤ r := by
  unfold keep
  omega

/-- The tile's quotient is the head's output, where the tile's weights are the head's. -/
theorem textTile_apply {l w : ℕ} (hv : S65x2048.Slices ![0, 0] (Sh 65 w)) (q k : FVec Ideal S64x2048 .bf16)
    (v : FVec Ideal S65x2048 .bf16) (p : FVec Ideal (Sh 256 w) .bf16) (hw : w = l + 256) (hl : w ≤ 1024)
    (hp : ∀ (i : Fin 256) (j : Fin w),
      p (ix2 i j) = if j.val ≤ l + i.val then Ideal.exp2 (score q k ⟨l + i.val, by omega⟩ ⟨j.val, by omega⟩) else 0)
    (d : Fin 64) (i : Fin 256) :
    textQuotient (textSums w hv v p) (ix4 0 0 d i) = headOut q k v d ⟨l + i.val, by omega⟩ := by
  have hs : ∀ x : Fin 2048 → EReal, ∑ j : Fin w, x ⟨j.val, by omega⟩ * p (ix2 i j) = mass q k x ⟨l + i.val, by omega⟩ := by
    intro x
    unfold mass
    rw [← sum_window 0 (n := w) (by omega)]
    · refine Finset.sum_congr rfl fun j _ => ?_
      simp only [Nat.zero_add, hp, weight, keep_text (show l + i.val < 1024 by omega)]
    · intro c hc
      rw [weight, if_neg, mul_zero]
      rw [keep_text (show l + i.val < 1024 by omega)]
      omega
  rw [textQuotient_apply, textSums_apply hv v p (by omega), textSums_apply hv v p (by omega), headOut]
  exact congrArg₂ Ideal.div (hs fun c => v (ix2 (d.castLE (by decide)) c)) (hs fun c => v (ix2 64 c))

/-- The first tile of text queries, whole. -/
def firstTile (q k : FVec Ideal S64x2048 .bf16) (v : FVec Ideal S65x2048 .bf16) : FVec Ideal S1x1x64x256 .f32 :=
  textQuotient (textSums 256 slices_S65x2048_o0_0_S65x256 v (firstWeights (textScores 0 256 slices_S64x2048_o0_0_S64x256
    slices_S64x2048_o0_0_S64x256 dot_S64x256_S64x256_S256x256_0_0_1_1_n_n_wf q k)))

/-- The first tile is the head's output at its queries. -/
theorem firstTile_apply (q k : FVec Ideal S64x2048 .bf16) (v : FVec Ideal S65x2048 .bf16) (d : Fin 64) (i : Fin 256) :
    firstTile q k v (ix4 0 0 d i) = headOut q k v d ⟨0 + i.val, by omega⟩ :=
  textTile_apply (l := 0) _ q k v _ rfl (by decide) (fun i j => by
    rw [firstWeights_apply, textScores_apply _ _ _ q k (by decide) (by decide)]
    simp only [Nat.zero_add]) d i

/-- A later tile of text queries, from query `l` on, whole. -/
def laterTile (l w : ℕ) (hv : S65x2048.Slices ![0, 0] (Sh 65 w)) (hq : S64x2048.Slices ![0, l] S64x256)
    (hk : S64x2048.Slices ![0, 0] (Sh 64 w)) (wf : DotDims.WF (Sh 64 256) (Sh 64 w) (Sh 256 w) [0] [0] [1] [1] [] [])
    (hl : (Sh 256 w).Slices ![0, 0] (Sh 256 l)) (hd : (Sh 256 w).Slices ![0, l] S256x256)
    (hc : Shape.Concatenates [Sh 256 l, S256x256] (Sh 256 w) 1) (q k : FVec Ideal S64x2048 .bf16) (v : FVec Ideal S65x2048 .bf16) :
    FVec Ideal S1x1x64x256 .f32 :=
  textQuotient (textSums w hv v (laterWeights l w hl hd hc (textScores l w hq hk wf q k)))

/-- A later tile is the head's output at its queries. -/
theorem laterTile_apply {l w : ℕ} (hv : S65x2048.Slices ![0, 0] (Sh 65 w)) (hq : S64x2048.Slices ![0, l] S64x256)
    (hk : S64x2048.Slices ![0, 0] (Sh 64 w)) (wf : DotDims.WF (Sh 64 256) (Sh 64 w) (Sh 256 w) [0] [0] [1] [1] [] [])
    (hl : (Sh 256 w).Slices ![0, 0] (Sh 256 l)) (hd : (Sh 256 w).Slices ![0, l] S256x256)
    (hc : Shape.Concatenates [Sh 256 l, S256x256] (Sh 256 w) 1) (q k : FVec Ideal S64x2048 .bf16) (v : FVec Ideal S65x2048 .bf16)
    (hw : w = l + 256) (hb : w ≤ 1024) (d : Fin 64) (i : Fin 256) :
    laterTile l w hv hq hk wf hl hd hc q k v (ix4 0 0 d i) = headOut q k v d ⟨l + i.val, by omega⟩ :=
  textTile_apply hv q k v _ hw hb (fun i j => by
    rw [laterWeights_apply hl hd hc _ hw, textScores_apply hq hk wf q k (by omega) (by omega)]) d i

end Cert.Attn

end
-- ==== Proof.ImageTile.lean ====
/- One tile of 128 image queries: the weights over all the text, the weights over a band of 384 pixels, and the quotient of
   the weighted sums of both. -/
module

public import proofs.«01_k».proof.Proof.TextTile

@[expose] public section

set_option maxRecDepth 16384

noncomputable section

namespace Cert.Attn

open Idealize.ShloMosaic Idealize.ShloMosaic.TcCoe Idealize.SL.Sem
open Cert.KernelIdeal Cert.KernelIdeal.Facts₀

/-- The pixel numbers along axis `a` of the band's shape, the first of them `o`. -/
def pixels (o : ℕ) (a : Fin 2) (h : S128x384.Iotas .tc 32 [a]) : IVec S128x384 32 :=
  addi (broadcast S128x384 (BitVec.ofNat 32 o)) (iota .tc S128x384 32 [a] h)

/-- Which pairs of pixels are near, in words. -/
def nearWords (x y : IVec S128x384 32) : IVec S128x384 1 :=
  cmpi .sle
    (addi
      (muli (subi (shrsi x (broadcast S128x384 5#32)) (shrsi y (broadcast S128x384 5#32)))
        (subi (shrsi x (broadcast S128x384 5#32)) (shrsi y (broadcast S128x384 5#32))))
      (muli (subi (andi x (broadcast S128x384 31#32)) (andi y (broadcast S128x384 31#32)))
        (subi (andi x (broadcast S128x384 31#32)) (andi y (broadcast S128x384 31#32)))))
    (broadcast S128x384 6#32)

/-- The row and the column of a pixel number below 1024, in words. -/
theorem row_col : ∀ p : Fin 1024, (IntOp.shrsi .vector (BitVec.ofNat 32 p.val) 5#32 = BitVec.ofNat 32 (p.val / 32)) ∧
    (IntOp.andi (BitVec.ofNat 32 p.val) 31#32 = BitVec.ofNat 32 (p.val % 32)) := by
  decide +kernel

/-- The square of a difference below 32, in words. -/
theorem square_words : ∀ a b : Fin 32,
    IntOp.muli (IntOp.subi (BitVec.ofNat 32 a.val) (BitVec.ofNat 32 b.val)) (IntOp.subi (BitVec.ofNat 32 a.val) (BitVec.ofNat 32 b.val)) =
      BitVec.ofNat 32 (((a.val : ℤ) - b.val) ^ 2).toNat := by
  decide +kernel

/-- The comparison in words is `near`. -/
theorem near_words {p k : ℕ} (hp : p < 1024) (hk : k < 1024) :
    IntOp.cmpi .sle
      (IntOp.addi
        (IntOp.muli (IntOp.subi (IntOp.shrsi .vector (BitVec.ofNat 32 p) 5#32) (IntOp.shrsi .vector (BitVec.ofNat 32 k) 5#32))
          (IntOp.subi (IntOp.shrsi .vector (BitVec.ofNat 32 p) 5#32) (IntOp.shrsi .vector (BitVec.ofNat 32 k) 5#32)))
        (IntOp.muli (IntOp.subi (IntOp.andi (BitVec.ofNat 32 p) 31#32) (IntOp.andi (BitVec.ofNat 32 k) 31#32))
          (IntOp.subi (IntOp.andi (BitVec.ofNat 32 p) 31#32) (IntOp.andi (BitVec.ofNat 32 k) 31#32)))) 6#32 = 1#1 ↔ near p k := by
  have a := square_words ⟨p / 32, by omega⟩ ⟨k / 32, by omega⟩
  have b := square_words ⟨p % 32, by omega⟩ ⟨k % 32, by omega⟩
  simp only at a b
  rw [(row_col ⟨p, hp⟩).1, (row_col ⟨k, hk⟩).1, (row_col ⟨p, hp⟩).2, (row_col ⟨k, hk⟩).2, a, b]
  have bound : ∀ x y : ℕ, x < 32 → y < 32 → ((x : ℤ) - y) ^ 2 < 1024 := by
    intro x y hx hy
    nlinarith
  have a₁ := bound (p / 32) (k / 32) (by omega) (by omega)
  have b₁ := bound (p % 32) (k % 32) (by omega) (by omega)
  have a₀ := sq_nonneg (((p / 32 : ℕ) : ℤ) - ((k / 32 : ℕ) : ℤ))
  have b₀ := sq_nonneg (((p % 32 : ℕ) : ℤ) - ((k % 32 : ℕ) : ℤ))
  unfold near
  generalize (((p / 32 : ℕ) : ℤ) - ((k / 32 : ℕ) : ℤ)) ^ 2 = s at *
  generalize (((p % 32 : ℕ) : ℤ) - ((k % 32 : ℕ) : ℤ)) ^ 2 = t at *
  have e : IntOp.addi (BitVec.ofNat 32 s.toNat) (BitVec.ofNat 32 t.toNat) = BitVec.ofNat 32 (s.toNat + t.toNat) :=
    (BitVec.ofNat_add s.toNat t.toNat).symm
  rw [e, WordCmp.cmpi_sle_ofNat_eq_one_iff (by norm_num; omega) (by norm_num)]
  omega

/-- Whether two pixels of a tile are near, read off `nearWords`. -/
theorem nearWords_apply {a b : ℕ} (ha : a + 128 ≤ 1024) (hb : b + 384 ≤ 1024) (i : Fin 128) (j : Fin 384) :
    nearWords (pixels a 0 iota_S128x384_d0_w32) (pixels b 1 iota_S128x384_d1_w32) (ix2 i j) = 1#1 ↔ near (a + i.val) (b + j.val) := by
  have hx : pixels a 0 iota_S128x384_d0_w32 (ix2 i j) = BitVec.ofNat 32 (a + i.val) := by
    unfold pixels
    pointwise
    exact (BitVec.ofNat_add a i.val).symm
  have hy : pixels b 1 iota_S128x384_d1_w32 (ix2 i j) = BitVec.ofNat 32 (b + j.val) := by
    unfold pixels
    pointwise
    exact (BitVec.ofNat_add b j.val).symm
  rw [← near_words (by omega) (by omega), ← hx, ← hy]
  rfl

/-- The text's scores of all image queries. -/
def historyScores (q k : FVec Ideal S64x2048 .bf16) : FVec Ideal S1024x1024 .f32 :=
  matmul dot_S64x1024_S64x1024_S1024x1024_0_0_1_1_n_n none
    (extractStridedSlice S64x1024 ![0, 1024] q slices_S64x2048_o0_1024_S64x1024)
    (extractStridedSlice S64x1024 ![0, 0] k slices_S64x2048_o0_0_S64x1024) (constant S1024x1024 .f32 0x00000000#32)

/-- The weights of a tile over the text: two to its rows of the scores. -/
def historyWeights (a : ℕ) (h : S1024x1024.Slices ![a, 0] S128x1024) (s : FVec Ideal S1024x1024 .f32) : FVec Ideal S128x1024 .bf16 :=
  truncf .bf16 (exp2 (extractStridedSlice S128x1024 ![a, 0] s h)) bitsLt_bf16_f32

/-- An entry of `historyWeights`. -/
theorem historyWeights_apply {a : ℕ} (h : S1024x1024.Slices ![a, 0] S128x1024) (q k : FVec Ideal S64x2048 .bf16) (ha : a + 128 ≤ 1024)
    (i : Fin 128) (j : Fin 1024) :
    historyWeights a h (historyScores q k) (ix2 i j) = Ideal.exp2 (score q k ⟨1024 + (a + i.val), by omega⟩ ⟨j.val, by omega⟩) := by
  refine congrArg Ideal.exp2 ((block_apply h _ i j).trans ?_)
  refine (colDot_apply (wf := dot_S64x1024_S64x1024_S1024x1024_0_0_1_1_n_n_wf) _ _ _ _ _).trans ?_
  simp only [block_apply, Nat.zero_add, score]
  simp [constant]

/-- The weights of a tile over its band of pixels: two to the score of the near ones. -/
def bandWeights (a b o p : ℕ) (hq : S64x2048.Slices ![0, o] S64x128) (hk : S64x2048.Slices ![0, p] S64x384)
    (q k : FVec Ideal S64x2048 .bf16) : FVec Ideal S128x384 .bf16 :=
  truncf .bf16 (exp2 (select (nearWords (pixels a 0 iota_S128x384_d0_w32) (pixels b 1 iota_S128x384_d1_w32))
    (matmul dot_S64x128_S64x384_S128x384_0_0_1_1_n_n none (extractStridedSlice S64x128 ![0, o] q hq)
      (extractStridedSlice S64x384 ![0, p] k hk) (constant S128x384 .f32 0x00000000#32))
    (broadcast S128x384 (Named.named κ "mask" 0xF149F2CA#32)))) bitsLt_bf16_f32

/-- An entry of `bandWeights`. -/
theorem bandWeights_apply {a b o p : ℕ} (hq : S64x2048.Slices ![0, o] S64x128) (hk : S64x2048.Slices ![0, p] S64x384)
    (q k : FVec Ideal S64x2048 .bf16) (ha : a + 128 ≤ 1024) (hb : b + 384 ≤ 1024) (ho : o = 1024 + a) (hp : p = 1024 + b) (i : Fin 128)
    (j : Fin 384) :
    bandWeights a b o p hq hk q k (ix2 i j) =
      if near (a + i.val) (b + j.val) then Ideal.exp2 (score q k ⟨1024 + (a + i.val), by omega⟩ ⟨1024 + b + j.val, by omega⟩) else 0 := by
  subst ho hp
  have hs : matmul dot_S64x128_S64x384_S128x384_0_0_1_1_n_n none (extractStridedSlice S64x128 ![0, 1024 + a] q hq)
      (extractStridedSlice S64x384 ![0, 1024 + b] k hk) (constant S128x384 .f32 0x00000000#32) (ix2 i j) =
      score q k ⟨1024 + (a + i.val), by omega⟩ ⟨1024 + b + j.val, by omega⟩ := by
    refine (colDot_apply (wf := dot_S64x128_S64x384_S128x384_0_0_1_1_n_n_wf) _ _ _ _ _).trans ?_
    simp only [block_apply, Nat.zero_add, score, Nat.add_assoc]
    simp [constant]
  rw [← hs]
  show Ideal.exp2 (Scalar.select _ _ _) = _
  rw [Scalar.select, apply_ite Ideal.exp2]
  exact if_congr (nearWords_apply ha hb i j) rfl rfl

/-- The weighted sums of 65 rows over the text and the band. -/
def imageSums (p : ℕ) (hv : S65x2048.Slices ![0, p] S65x384) (v : FVec Ideal S65x2048 .bf16) (x : FVec Ideal S128x1024 .bf16)
    (y : FVec Ideal S128x384 .bf16) : FVec Ideal S65x128 .f32 :=
  addf
    (matmul dot_S65x1024_S128x1024_S65x128_1_1_0_0_n_n none (extractStridedSlice S65x1024 ![0, 0] v slices_S65x2048_o0_0_S65x1024) x
      (constant S65x128 .f32 0x00000000#32))
    (matmul dot_S65x384_S128x384_S65x128_1_1_0_0_n_n none (extractStridedSlice S65x384 ![0, p] v hv) y
      (constant S65x128 .f32 0x00000000#32))

/-- An entry of `imageSums`. -/
theorem imageSums_apply {p : ℕ} (hv : S65x2048.Slices ![0, p] S65x384) (v : FVec Ideal S65x2048 .bf16) (x : FVec Ideal S128x1024 .bf16)
    (y : FVec Ideal S128x384 .bf16) (hp : p + 384 ≤ 2048) (d : Fin 65) (i : Fin 128) :
    imageSums p hv v x y (ix2 d i) =
      ∑ j : Fin 1024, v (ix2 d ⟨j.val, by omega⟩) * x (ix2 i j) + ∑ j : Fin 384, v (ix2 d ⟨p + j.val, by omega⟩) * y (ix2 i j) := by
  refine congrArg₂ (· + ·) ((rowDot_apply _ _ _ d i).trans ?_) ((rowDot_apply _ _ _ d i).trans ?_) <;>
    (simp only [block_apply, Nat.zero_add]; simp [constant])

/-- The quotient of the first 64 rows by row 64, in the block's shape. -/
def imageQuotient (z : FVec Ideal S65x128 .f32) : FVec Ideal S1x1x64x128 .f32 :=
  shapeCast S1x1x64x128 (divf (extractStridedSlice S64x128 ![0, 0] z slices_S65x128_o0_0_S64x128)
    (broadcastTo S64x128 (extractStridedSlice S1x128 ![64, 0] z slices_S65x128_o64_0_S1x128) broadcasts_S1x128_S64x128))
    shapeCasts_S64x128_S1x1x64x128

/-- An entry of `imageQuotient`. -/
theorem imageQuotient_apply (z : FVec Ideal S65x128 .f32) (d : Fin 64) (i : Fin 128) :
    imageQuotient z (ix4 0 0 d i) = Ideal.div (z (ix2 (d.castLE (by decide)) i)) (z (ix2 64 i)) := by
  unfold imageQuotient
  pointwise
  rfl

/-- An image query keeps the text and the pixels near it. -/
theorem keep_image {p c : ℕ} : keep (1024 + p) c ↔ c < 1024 ∨ (1024 ≤ c ∧ near p (c - 1024)) := by
  unfold keep
  rw [Nat.add_sub_cancel_left]
  constructor
  · rintro (⟨h, -⟩ | ⟨-, h⟩)
    · exact .inl h
    · exact .inr h
  · rintro (h | h)
    · exact .inl ⟨h, .inl (by omega)⟩
    · exact .inr ⟨by omega, h⟩

/-- A tile of image queries, from pixel `a` on, whole; its band begins at pixel `b`. -/
def imageTile (a b o p : ℕ) (hr : S1024x1024.Slices ![a, 0] S128x1024) (hq : S64x2048.Slices ![0, o] S64x128)
    (hk : S64x2048.Slices ![0, p] S64x384) (hv : S65x2048.Slices ![0, p] S65x384) (q k : FVec Ideal S64x2048 .bf16)
    (v : FVec Ideal S65x2048 .bf16) : FVec Ideal S1x1x64x128 .f32 :=
  imageQuotient (imageSums p hv v (historyWeights a hr (historyScores q k)) (bandWeights a b o p hq hk q k))

/-- Near pixels are at most two rows apart. -/
theorem near_rows {p k : ℕ} (h : near p k) : p / 32 ≤ k / 32 + 2 ∧ k / 32 ≤ p / 32 + 2 := by
  unfold near at h
  have b₀ := sq_nonneg (((p % 32 : ℕ) : ℤ) - ((k % 32 : ℕ) : ℤ))
  have h' : (((p / 32 : ℕ) : ℤ) - ((k / 32 : ℕ) : ℤ)) ^ 2 ≤ 6 := by linarith
  have h₁ : ((p / 32 : ℕ) : ℤ) - ((k / 32 : ℕ) : ℤ) ≤ 2 := by nlinarith
  have h₂ : -2 ≤ ((p / 32 : ℕ) : ℤ) - ((k / 32 : ℕ) : ℤ) := by nlinarith
  omega

/-- A tile of image queries is the head's output at its queries, where the band holds two rows of pixels on either side of the
    tile that the image has. -/
theorem imageTile_apply {a b o p : ℕ} (hr : S1024x1024.Slices ![a, 0] S128x1024) (hq : S64x2048.Slices ![0, o] S64x128)
    (hk : S64x2048.Slices ![0, p] S64x384) (hv : S65x2048.Slices ![0, p] S65x384) (q k : FVec Ideal S64x2048 .bf16)
    (v : FVec Ideal S65x2048 .bf16) (ha : a + 128 ≤ 1024) (hb : b + 384 ≤ 1024) (ho : o = 1024 + a) (hp : p = 1024 + b)
    (h₁ : b = 0 ∨ b / 32 + 2 ≤ a / 32) (h₂ : b + 384 = 1024 ∨ a / 32 + 6 ≤ b / 32 + 12) (m₁ : a % 128 = 0) (m₂ : b % 128 = 0)
    (d : Fin 64) (i : Fin 128) :
    imageTile a b o p hr hq hk hv q k v (ix4 0 0 d i) = headOut q k v d ⟨o + i.val, by omega⟩ := by
  have hi := i.isLt
  have hs : ∀ x : Fin 2048 → EReal,
      ∑ j : Fin 1024, x ⟨j.val, by omega⟩ * historyWeights a hr (historyScores q k) (ix2 i j) +
        ∑ j : Fin 384, x ⟨p + j.val, by omega⟩ * bandWeights a b o p hq hk q k (ix2 i j) = mass q k x ⟨o + i.val, by omega⟩ := by
    intro x
    unfold mass
    rw [← sum_two_windows (n := 384) p (by omega) (by omega)]
    · subst ho hp
      refine congrArg₂ (· + ·) (Finset.sum_congr rfl fun j _ => ?_) (Finset.sum_congr rfl fun j _ => ?_)
      · rw [historyWeights_apply hr q k ha, weight]
        simp only [Nat.add_assoc]
        rw [if_pos (keep_image.2 (.inl j.isLt))]
      · rw [bandWeights_apply hq hk q k ha hb rfl rfl, weight]
        simp only [Nat.add_assoc]
        refine congrArg _ (if_congr ?_ rfl rfl)
        rw [keep_image, Nat.add_sub_cancel_left]
        constructor
        · exact fun h => .inr ⟨by omega, h⟩
        · rintro (h | h)
          · omega
          · exact h.2
    · intro c hc hw
      have hc' := c.isLt
      rw [weight, if_neg, mul_zero]
      simp only [ho, Nat.add_assoc]
      rw [keep_image]
      rintro (h | ⟨-, h⟩)
      · omega
      · have := near_rows h
        omega
  unfold imageTile headOut
  rw [imageQuotient_apply, imageSums_apply hv v _ _ (by omega), imageSums_apply hv v _ _ (by omega)]
  exact congrArg₂ Ideal.div (hs fun c => v (ix2 (d.castLE (by decide)) c)) (hs fun c => v (ix2 64 c))

end Cert.Attn

end
-- ==== Proof.Stored.lean ====
/- The blocks that one grid point stores are the tiles of its two heads. -/
module

public import proofs.«01_k».proof.Proof.ImageTile
public import proofs.«01_k».proof.Proof.Gen.KernelIdeal.Skeleton

@[expose] public section

set_option maxRecDepth 16384

noncomputable section

namespace Cert.Attn

open Idealize.ShloMosaic Idealize.ShloMosaic.TcCoe Idealize.SL.Sem
open Cert.KernelIdeal Cert.KernelIdeal.Gen

/-- The first pixel of the band of image tile `n`: one tile before it, kept inside the image. -/
def bandStart (n : ℕ) : ℕ := 128 * min (n - 1) 5

/-- A block lies in a matrix when both its axes do. -/
theorem slices_of_le {a b a' b' o₁ o₂ : ℕ} (h₁ : o₁ + a' ≤ a) (h₂ : o₂ + b' ≤ b) : (Sh a b).Slices ![o₁, o₂] (Sh a' b') :=
  ⟨rfl, fun c => match c with
    | ⟨0, _⟩ => h₁
    | ⟨1, _⟩ => h₂⟩

/-- Image tile `n` of the eight. -/
def imageTileAt (n : Fin 8) (q k : FVec Ideal S64x2048 .bf16) (v : FVec Ideal S65x2048 .bf16) : FVec Ideal S1x1x64x128 .f32 :=
  imageTile (128 * n.val) (bandStart n.val) (1024 + 128 * n.val) (1024 + bandStart n.val)
    (slices_of_le (by omega) (by omega)) (slices_of_le (by omega) (by omega)) (slices_of_le (by omega) (by unfold bandStart; omega))
    (slices_of_le (by omega) (by unfold bandStart; omega)) q k v

/-- Image tile `n` is the head's output at its queries. -/
theorem imageTileAt_apply (n : Fin 8) (q k : FVec Ideal S64x2048 .bf16) (v : FVec Ideal S65x2048 .bf16) (d : Fin 64) (i : Fin 128) :
    imageTileAt n q k v (ix4 0 0 d i) = headOut q k v d ⟨1024 + 128 * n.val + i.val, by omega⟩ := by
  unfold imageTileAt
  have hb : bandStart n.val = 128 * min (n.val - 1) 5 := rfl
  refine imageTile_apply _ _ _ _ q k v ?_ ?_ rfl rfl ?_ ?_ (Nat.mul_mod_right _ _) (Nat.mul_mod_right _ _) d i <;> omega

/-- Text tile `n + 1` of the four. -/
def textTileAt (n : Fin 3) (q k : FVec Ideal S64x2048 .bf16) (v : FVec Ideal S65x2048 .bf16) : FVec Ideal S1x1x64x256 .f32 :=
  match n with
  | 0 => laterTile 256 512 slices_S65x2048_o0_0_S65x512 slices_S64x2048_o0_256_S64x256 slices_S64x2048_o0_0_S64x512
      dot_S64x256_S64x512_S256x512_0_0_1_1_n_n_wf slices_S256x512_o0_0_S256x256 slices_S256x512_o0_256_S256x256
      concatenates_S256x256_S256x256_S256x512_d1 q k v
  | 1 => laterTile 512 768 slices_S65x2048_o0_0_S65x768 slices_S64x2048_o0_512_S64x256 slices_S64x2048_o0_0_S64x768
      dot_S64x256_S64x768_S256x768_0_0_1_1_n_n_wf slices_S256x768_o0_0_S256x512 slices_S256x768_o0_512_S256x256
      concatenates_S256x512_S256x256_S256x768_d1 q k v
  | 2 => laterTile 768 1024 slices_S65x2048_o0_0_S65x1024 slices_S64x2048_o0_768_S64x256 slices_S64x2048_o0_0_S64x1024
      dot_S64x256_S64x1024_S256x1024_0_0_1_1_n_n_wf slices_S256x1024_o0_0_S256x768 slices_S256x1024_o0_768_S256x256
      concatenates_S256x768_S256x256_S256x1024_d1 q k v

/-- Text tile `n + 1` is the head's output at its queries. -/
theorem textTileAt_apply (n : Fin 3) (q k : FVec Ideal S64x2048 .bf16) (v : FVec Ideal S65x2048 .bf16) (d : Fin 64) (i : Fin 256) :
    textTileAt n q k v (ix4 0 0 d i) = headOut q k v d ⟨256 + 256 * n.val + i.val, by omega⟩ := by
  match n with
  | 0 => exact laterTile_apply _ _ _ _ _ _ _ q k v rfl (by decide) d i
  | 1 => exact laterTile_apply _ _ _ _ _ _ _ q k v rfl (by decide) d i
  | 2 => exact laterTile_apply _ _ _ _ _ _ _ q k v rfl (by decide) d i

section Blocks

variable (q k v x : Vec Ideal S1x1x64x2048 .f32)

/-- The first text block stored for the point's first head, from the loaded queries, keys and values. -/
theorem text_first₀ : k0_pay6 (F := Ideal) q k v = firstTile (k0_pay3 q) (k0_pay4 k) (k0_pay5 v) := rfl

/-- The other text blocks stored for the point's first head. -/
theorem text₀ (n : Fin 3) :
    ![k0_pay9 (F := Ideal) k0_pay2 (k0_pay5 v) (k0_pay7 q k) (k0_pay8 q k),
      k0_pay10 k0_pay2 (k0_pay3 q) (k0_pay4 k) (k0_pay5 v),
      k0_pay12 (k0_pay5 v) (k0_pay11 k0_pay2 (k0_pay3 q) (k0_pay4 k))] n = textTileAt n (k0_pay3 q) (k0_pay4 k) (k0_pay5 v) := by
  match n with
  | 0 => rfl
  | 1 => rfl
  | 2 => rfl

/-- The first text block stored for the point's second head. -/
theorem text_first₁ : k0_pay45 (F := Ideal) (k0_pay44 k0_pay2 q k v) = firstTile (k0_pay41 q) (k0_pay42 k) (k0_pay43 v) := rfl

end Blocks

section Tiles

variable (q k : FVec Ideal S64x2048 .bf16) (v : FVec Ideal S65x2048 .bf16)

/-- The other text blocks stored for the point's second head. -/
theorem text₁ (n : Fin 3) :
    ![k0_pay46 (F := Ideal) k0_pay2 q k v, k0_pay47 k0_pay2 q k v,
      k0_pay50 k0_pay2 v (k0_pay48 q) (k0_pay49 k) (constant S256x1024 .f32 0x00000000#32)] n = textTileAt n q k v := by
  match n with
  | 0 => rfl
  | 1 => rfl
  | 2 => rfl

/-- The image blocks stored for the point's first head. -/
theorem image₀ (n : Fin 8) :
    ![k0_pay16 (F := Ideal) v (k0_pay14 q k) (k0_pay15 q k),
      k0_pay20 v (k0_pay17 (k0_pay13 q k)) (k0_pay18 q k) (k0_pay19 v),
      k0_pay24 v (k0_pay21 (k0_pay13 q k)) (k0_pay22 q k) (k0_pay23 v) (constant S65x128 .f32 0x00000000#32),
      k0_pay27 v (k0_pay25 q k) (k0_pay26 v (k0_pay13 q k)),
      k0_pay31 (k0_pay28 q k) (k0_pay29 v (k0_pay13 q k)) (k0_pay30 v),
      k0_pay35 (k0_pay32 q k) (k0_pay33 v (k0_pay13 q k)) (k0_pay34 v) (constant S65x128 .f32 0x00000000#32),
      k0_pay38 (k0_pay36 v (k0_pay13 q k)) (k0_pay37 q k v),
      k0_pay40 (k0_pay39 q k v (k0_pay13 q k))] n = imageTileAt n q k v := by
  match n with
  | 0 => rfl
  | 1 => rfl
  | 2 => rfl
  | 3 => rfl
  | 4 => rfl
  | 5 => rfl
  | 6 => rfl
  | 7 => rfl

/-- The image blocks stored for the point's second head. -/
theorem image₁ (n : Fin 8) :
    ![k0_pay54 (F := Ideal) v (k0_pay51 q k) (k0_pay52 q k) k0_pay53,
      k0_pay57 v (k0_pay51 q k) (k0_pay55 q k) k0_pay56 (Named.named κ "mask" 0xF149F2CA#32),
      k0_pay61 v (k0_pay51 q k) (k0_pay58 q k) k0_pay59 k0_pay60,
      k0_pay63 v (k0_pay51 q k) (k0_pay62 q k),
      k0_pay66 v (k0_pay64 q k) (k0_pay65 (k0_pay51 q k)),
      k0_pay69 v (k0_pay67 q k) (k0_pay68 (k0_pay51 q k)),
      k0_pay72 v (k0_pay70 q k) (k0_pay71 (k0_pay51 q k)),
      k0_pay1 v (k0_pay73 (k0_pay51 q k)) (k0_pay74 q k)] n = imageTileAt n q k v := by
  match n with
  | 0 => rfl
  | 1 => rfl
  | 2 => rfl
  | 3 => rfl
  | 4 => rfl
  | 5 => rfl
  | 6 => rfl
  | 7 => rfl

end Tiles

end Cert.Attn

end
-- ==== Proof.Point.lean ====
/- What one grid point leaves in its output block, from its three input blocks: the outputs of its two heads. -/
module

public import proofs.«01_k».proof.Proof.Stored
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Attn

open Idealize.ShloMosaic Idealize.ShloMosaic.TcCoe Idealize.SL.Sem
open Cert.KernelIdeal Cert.KernelIdeal.Gen

/-- Head `h` of a block of queries, scaled by 1 / (8 log 2). -/
def queries (x : Vec Ideal S1x2x64x2048 .f32) (h : Fin 2) : FVec Ideal S64x2048 .bf16 :=
  fun i => x (ix4 0 h (i 0) (i 1)) * (((8 * Real.log 2)⁻¹ : ℝ) : EReal)

/-- Head `h` of a block of keys. -/
def keys (x : Vec Ideal S1x2x64x2048 .f32) (h : Fin 2) : FVec Ideal S64x2048 .bf16 := fun i => x (ix4 0 h (i 0) (i 1))

/-- Head `h` of a block of values, and a row of ones below it. -/
def values (x : Vec Ideal S1x2x64x2048 .f32) (h : Fin 2) : FVec Ideal S65x2048 .bf16 :=
  fun i => if hi : (i 0).val < 64 then x (ix4 0 h ⟨(i 0).val, hi⟩ (i 1)) else 1

/-- The output block of a point: at head `h`, feature `d` and query `r`, the head's output. -/
def blockOut (x₀ x₁ x₂ : Vec Ideal S1x2x64x2048 .f32) (y : S1x2x64x2048.Idx) : EReal :=
  headOut (queries x₀ (y 1)) (keys x₁ (y 1)) (values x₂ (y 1)) (y 2) (y 3)

section Loads

variable (x : Vec Ideal S1x2x64x2048 .f32) (b₀ : ∀ a, ![0, 0, 0, 0] a + S1x1x64x2048.size a ≤ S1x2x64x2048.size a)
  (b₁ : ∀ a, ![0, 1, 0, 0] a + S1x1x64x2048.size a ≤ S1x2x64x2048.size a)

/-- An index of a matrix is its two coordinates. -/
theorem eta {a b : ℕ} (i : (Sh a b).Idx) : i = ix2 (i 0) (i 1) := by
  funext c
  match c with
  | ⟨0, _⟩ => rfl
  | ⟨1, _⟩ => rfl

/-- The scaled queries of the first head. -/
theorem queries₀ : k0_pay3 (F := Ideal) (View.ld x (Rect.unit ![0, 0, 0, 0] S1x1x64x2048.size b₀)) = queries x 0 := by
  funext i
  rw [eta i]
  pointwise [k0_pay3, queries]
  rfl

/-- The scaled queries of the second head. -/
theorem queries₁ : k0_pay41 (F := Ideal) (View.ld x (Rect.unit ![0, 1, 0, 0] S1x1x64x2048.size b₁)) = queries x 1 := by
  funext i
  rw [eta i]
  pointwise [k0_pay41, queries]
  rfl

/-- The keys of the first head. -/
theorem keys₀ : k0_pay4 (F := Ideal) (View.ld x (Rect.unit ![0, 0, 0, 0] S1x1x64x2048.size b₀)) = keys x 0 := by
  funext i
  rw [eta i]
  pointwise [k0_pay4, keys]

/-- The keys of the second head. -/
theorem keys₁ : k0_pay42 (F := Ideal) (View.ld x (Rect.unit ![0, 1, 0, 0] S1x1x64x2048.size b₁)) = keys x 1 := by
  funext i
  rw [eta i]
  pointwise [k0_pay42, keys]

/-- The values of the first head, with their row of ones. -/
theorem values₀ : k0_pay5 (F := Ideal) (View.ld x (Rect.unit ![0, 0, 0, 0] S1x1x64x2048.size b₀)) = values x 0 := by
  funext i
  rw [eta i]
  pointwise [k0_pay5, values]

/-- The values of the second head, with their row of ones. -/
theorem values₁ : k0_pay43 (F := Ideal) (View.ld x (Rect.unit ![0, 1, 0, 0] S1x1x64x2048.size b₁)) = values x 1 := by
  funext i
  rw [eta i]
  pointwise [k0_pay43, values]

end Loads

section Pieces

variable (x₀ x₁ x₂ : Vec Ideal S1x2x64x2048 .f32) (y : S1x2x64x2048.Idx)

/-- A stored block of `n` queries from `o` on, of head `h`, holds the point's output when it holds the head's. -/
theorem piece {n : ℕ} (h : Fin 2) (o : ℕ) (w : FVec Ideal ⟨4, ![1, 1, 64, n]⟩ .f32) (ho : o + n ≤ 2048)
    (hw : ∀ (d : Fin 64) (i : Fin n),
      w (ix4 0 0 d i) = headOut (queries x₀ h) (keys x₁ h) (values x₂ h) d ⟨o + i.val, by omega⟩) :
    View.TileAt (Val := Elt Ideal) (e := .f32) y ![0, h.val, 0, o] ![1, 1, 64, n] w (blockOut x₀ x₁ x₂ y) := by
  intro x hx
  have h₁ : (y 1).val = h.val + (x 1).val := hx 1
  have h₂ : (y 2).val = 0 + (x 2).val := hx 2
  have h₃ : (y 3).val = o + (x 3).val := hx 3
  have z₀ : (x 0).val < 1 := (x 0).isLt
  have z₁ : (x 1).val < 1 := (x 1).isLt
  have z₃ : (x 3).val < n := (x 3).isLt
  have ex : x = ix4 0 0 (x 2) (x 3) := by
    funext c
    match c with
    | ⟨0, _⟩ => exact Fin.ext (show (x 0).val = 0 by omega)
    | ⟨1, _⟩ => exact Fin.ext (show (x 1).val = 0 by omega)
    | ⟨2, _⟩ => rfl
    | ⟨3, _⟩ => rfl
  have e₁ : y 1 = h := Fin.ext (by omega)
  have e₂ : y 2 = x 2 := Fin.ext (by omega)
  have e₃ : y 3 = ⟨o + (x 3).val, by omega⟩ := Fin.ext h₃
  refine (congrArg w ex).trans ((hw (x 2) (x 3)).trans ?_)
  unfold blockOut
  rw [e₁, e₂, e₃]
  rfl

/-- The first text tile of head `h`. -/
theorem first_piece (h : Fin 2) (w : FVec Ideal S1x1x64x256 .f32)
    (hw : w = firstTile (queries x₀ h) (keys x₁ h) (values x₂ h)) :
    View.TileAt (Val := Elt Ideal) (e := .f32) y ![0, h.val, 0, 0] ![1, 1, 64, 256] w (blockOut x₀ x₁ x₂ y) :=
  piece x₀ x₁ x₂ y h 0 w (by decide) fun d i => by rw [hw]; exact firstTile_apply _ _ _ d i

/-- Text tile `n + 1` of head `h`. -/
theorem text_piece (h : Fin 2) (n : Fin 3) (w : FVec Ideal S1x1x64x256 .f32)
    (hw : w = textTileAt n (queries x₀ h) (keys x₁ h) (values x₂ h)) :
    View.TileAt (Val := Elt Ideal) (e := .f32) y ![0, h.val, 0, 256 + 256 * n.val] ![1, 1, 64, 256] w (blockOut x₀ x₁ x₂ y) :=
  piece x₀ x₁ x₂ y h _ w (by omega) fun d i => by rw [hw]; exact textTileAt_apply n _ _ _ d i

/-- Image tile `n` of head `h`. -/
theorem image_piece (h : Fin 2) (n : Fin 8) (w : FVec Ideal S1x1x64x128 .f32)
    (hw : w = imageTileAt n (queries x₀ h) (keys x₁ h) (values x₂ h)) :
    View.TileAt (Val := Elt Ideal) (e := .f32) y ![0, h.val, 0, 1024 + 128 * n.val] ![1, 1, 64, 128] w (blockOut x₀ x₁ x₂ y) :=
  piece x₀ x₁ x₂ y h _ w (by omega) fun d i => by rw [hw]; exact imageTileAt_apply n _ _ _ d i

end Pieces

/-- One grid point's output block is `blockOut` of its input blocks. -/
theorem point (c : Dev nD) (i : grid0.Coords) (a₁ : Memref sig .tc .vmem S1x2x64x2048 .f32) (h₁ : a₁.IsWhole)
    (a₂ : Memref sig .tc .vmem S1x2x64x2048 .f32) (h₂ : a₂.IsWhole) (a₃ : Memref sig .tc .vmem S1x2x64x2048 .f32) (h₃ : a₃.IsWhole)
    (a₄ : Memref sig .tc .vmem S1x2x64x2048 .f32) (h₄ : a₄.IsWhole) (x₀ x₁ x₂ : Vec Ideal S1x2x64x2048 .f32)
    (y : S1x2x64x2048.Idx) : out0_A_3 c i a₁ h₁ a₂ h₂ a₃ h₃ a₄ h₄ x₀ x₁ x₂ y = blockOut x₀ x₁ x₂ y := by
  unfold out0_A_3
  rw [View.read_writes_junk_eq_canon]
  refine View.canon_eq_of_allAt _ y _ (cover0_A_3 ..) ?_
  frame_out
  refine View.allAt_cons_unit _ _ _ _ _ (image_piece x₀ x₁ x₂ y 1 7 _ ((image₁ _ _ _ 7).trans (by rw [queries₁, keys₁, values₁]))) ?_
  refine View.allAt_cons_unit _ _ _ _ _ (image_piece x₀ x₁ x₂ y 1 6 _ ((image₁ _ _ _ 6).trans (by rw [queries₁, keys₁, values₁]))) ?_
  refine View.allAt_cons_unit _ _ _ _ _ (image_piece x₀ x₁ x₂ y 1 5 _ ((image₁ _ _ _ 5).trans (by rw [queries₁, keys₁, values₁]))) ?_
  refine View.allAt_cons_unit _ _ _ _ _ (image_piece x₀ x₁ x₂ y 1 4 _ ((image₁ _ _ _ 4).trans (by rw [queries₁, keys₁, values₁]))) ?_
  refine View.allAt_cons_unit _ _ _ _ _ (image_piece x₀ x₁ x₂ y 1 3 _ ((image₁ _ _ _ 3).trans (by rw [queries₁, keys₁, values₁]))) ?_
  refine View.allAt_cons_unit _ _ _ _ _ (image_piece x₀ x₁ x₂ y 1 2 _ ((image₁ _ _ _ 2).trans (by rw [queries₁, keys₁, values₁]))) ?_
  refine View.allAt_cons_unit _ _ _ _ _ (image_piece x₀ x₁ x₂ y 1 1 _ ((image₁ _ _ _ 1).trans (by rw [queries₁, keys₁, values₁]))) ?_
  refine View.allAt_cons_unit _ _ _ _ _ (image_piece x₀ x₁ x₂ y 1 0 _ ((image₁ _ _ _ 0).trans (by rw [queries₁, keys₁, values₁]))) ?_
  refine View.allAt_cons_unit _ _ _ _ _ (text_piece x₀ x₁ x₂ y 1 2 _ ((text₁ _ _ _ 2).trans (by rw [queries₁, keys₁, values₁]))) ?_
  refine View.allAt_cons_unit _ _ _ _ _ (text_piece x₀ x₁ x₂ y 1 1 _ ((text₁ _ _ _ 1).trans (by rw [queries₁, keys₁, values₁]))) ?_
  refine View.allAt_cons_unit _ _ _ _ _ (text_piece x₀ x₁ x₂ y 1 0 _ ((text₁ _ _ _ 0).trans (by rw [queries₁, keys₁, values₁]))) ?_
  refine View.allAt_cons_unit _ _ _ _ _ (first_piece x₀ x₁ x₂ y 1 _ ((text_first₁ _ _ _).trans (by rw [queries₁, keys₁, values₁]))) ?_
  refine View.allAt_cons_unit _ _ _ _ _ (image_piece x₀ x₁ x₂ y 0 7 _ ((image₀ _ _ _ 7).trans (by rw [queries₀, keys₀, values₀]))) ?_
  refine View.allAt_cons_unit _ _ _ _ _ (image_piece x₀ x₁ x₂ y 0 6 _ ((image₀ _ _ _ 6).trans (by rw [queries₀, keys₀, values₀]))) ?_
  refine View.allAt_cons_unit _ _ _ _ _ (image_piece x₀ x₁ x₂ y 0 5 _ ((image₀ _ _ _ 5).trans (by rw [queries₀, keys₀, values₀]))) ?_
  refine View.allAt_cons_unit _ _ _ _ _ (image_piece x₀ x₁ x₂ y 0 4 _ ((image₀ _ _ _ 4).trans (by rw [queries₀, keys₀, values₀]))) ?_
  refine View.allAt_cons_unit _ _ _ _ _ (image_piece x₀ x₁ x₂ y 0 3 _ ((image₀ _ _ _ 3).trans (by rw [queries₀, keys₀, values₀]))) ?_
  refine View.allAt_cons_unit _ _ _ _ _ (image_piece x₀ x₁ x₂ y 0 2 _ ((image₀ _ _ _ 2).trans (by rw [queries₀, keys₀, values₀]))) ?_
  refine View.allAt_cons_unit _ _ _ _ _ (image_piece x₀ x₁ x₂ y 0 1 _ ((image₀ _ _ _ 1).trans (by rw [queries₀, keys₀, values₀]))) ?_
  refine View.allAt_cons_unit _ _ _ _ _ (image_piece x₀ x₁ x₂ y 0 0 _ ((image₀ _ _ _ 0).trans (by rw [queries₀, keys₀, values₀]))) ?_
  refine View.allAt_cons_unit _ _ _ _ _ (text_piece x₀ x₁ x₂ y 0 2 _ ((text₀ _ _ _ 2).trans (by rw [queries₀, keys₀, values₀]))) ?_
  refine View.allAt_cons_unit _ _ _ _ _ (text_piece x₀ x₁ x₂ y 0 1 _ ((text₀ _ _ _ 1).trans (by rw [queries₀, keys₀, values₀]))) ?_
  refine View.allAt_cons_unit _ _ _ _ _ (text_piece x₀ x₁ x₂ y 0 0 _ ((text₀ _ _ _ 0).trans (by rw [queries₀, keys₀, values₀]))) ?_
  refine View.allAt_cons_unit _ _ _ _ _ (first_piece x₀ x₁ x₂ y 0 _ ((text_first₀ _ _ _).trans (by rw [queries₀, keys₀, values₀]))) ?_
  exact View.allAt_nil _ _

end Cert.Attn

end
-- ==== Proof.Heads.lean ====
/- The problem's result, from the three argument arrays: sixteen heads, each attended on its own. -/
module

public import proofs.«01_k».proof.Proof.Spec

@[expose] public section

set_option maxRecDepth 16384

noncomputable section

namespace Cert.Attn

open Idealize.ShloMosaic

/-- An argument or result array: batch 1, 16 heads, 2048 positions, 64 features. -/
abbrev Arr := (⟨4, ![1, 16, 2048, 64]⟩ : Shape).Idx → EReal

/-- Head `h` of the queries, features first, scaled by 1 / (8 log 2). -/
def scaledOf (q : Arr) (h : Fin 16) : Mat 64 2048 :=
  fun i => q (ix4 0 h (i 1) (i 0)) * (((8 * Real.log 2)⁻¹ : ℝ) : EReal)

/-- Head `h` of the keys, features first. -/
def keysOf (k : Arr) (h : Fin 16) : Mat 64 2048 := fun i => k (ix4 0 h (i 1) (i 0))

/-- Head `h` of the values, features first, and a row of ones below them. -/
def valuesOf (v : Arr) (h : Fin 16) : Mat 65 2048 :=
  fun i => if hi : (i 0).val < 64 then v (ix4 0 h (i 1) ⟨(i 0).val, hi⟩) else 1

/-- The result at head `h`, position `r`, feature `d`. -/
def attnAt (q k v : Arr) (h : Fin 16) (r : Fin 2048) (d : Fin 64) : EReal :=
  headOut (scaledOf q h) (keysOf k h) (valuesOf v h) d r

/-- The result array. -/
def attn (q k v : Arr) : Arr := fun i => attnAt q k v (i 1) (i 2) (i 3)

end Cert.Attn

end
-- ==== Proof.Array.lean ====
/- What the kernel's result array holds after the run: every grid point's block at its two heads, then the transpose. -/
module

public import proofs.«01_k».proof.Proof.Point
public import proofs.«01_k».proof.Proof.Heads

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Point `t` reads and writes heads `2 t` and `2 t + 1`. -/
theorem idx : ∀ t : Fin cfg0.N, win0_0.index t = ![0, t.val, 0, 0] ∧ win0_1.index t = ![0, t.val, 0, 0]
    ∧ win0_2.index t = ![0, t.val, 0, 0] ∧ win0_3.index t = ![0, t.val, 0, 0] :=
  (by decide +kernel : ∀ t : Fin grid0.N, _)

/-- The head that point `t`'s block holds at its own head `h`. -/
def headAt (t : Fin cfg0.N) (h : Fin 2) : Fin 16 :=
  ⟨2 * t.val + h.val, by have : t.val < 8 := t.isLt; omega⟩

/-- The array of queries as the grid finds it: the argument, transposed. -/
theorem entry₀ (c : Dev nD) : V m c main_call0_v0
    = transpose S1x16x64x2048 [0, 1, 3, 2] (m ((c : Thread nD τ).loc main_arg0)) transposes_S1x16x2048x64_S1x16x64x2048_0_1_3_2 := by
  simp only [V, V0, hostOps0, List.flatten_cons, List.flatten_nil, List.append_nil, List.cons_append, List.nil_append,
    StableHlo.TRef.unary, StableHlo.TRef.toBuf, StableHlo.TRef.ofBuf, cast_eq]
  after_results

/-- The array of keys as the grid finds it: the argument, transposed. -/
theorem entry₁ (c : Dev nD) : V m c main_call0_v1
    = transpose S1x16x64x2048 [0, 1, 3, 2] (m ((c : Thread nD τ).loc main_arg1)) transposes_S1x16x2048x64_S1x16x64x2048_0_1_3_2 := by
  simp only [V, V0, hostOps0, List.flatten_cons, List.flatten_nil, List.append_nil, List.cons_append, List.nil_append,
    StableHlo.TRef.unary, StableHlo.TRef.toBuf, StableHlo.TRef.ofBuf, cast_eq]
  after_results

/-- The array of values as the grid finds it: the argument, transposed. -/
theorem entry₂ (c : Dev nD) : V m c main_call0_v2
    = transpose S1x16x64x2048 [0, 1, 3, 2] (m ((c : Thread nD τ).loc main_arg2)) transposes_S1x16x2048x64_S1x16x64x2048_0_1_3_2 := by
  simp only [V, V0, hostOps0, List.flatten_cons, List.flatten_nil, List.append_nil, List.cons_append, List.nil_append,
    StableHlo.TRef.unary, StableHlo.TRef.toBuf, StableHlo.TRef.ofBuf, cast_eq]
  after_results

/-- A block of queries is its part of the argument, transposed. -/
theorem read₀ (c : Dev nD) (t : Fin cfg0.N) (h : Fin 2) (e : Fin 64) (n : Fin 2048) :
    (iblk m c 0 t : S1x2x64x2048.Idx → EReal) (ix4 0 h e n) = (m ((c : Thread nD τ).loc main_arg0) : Arr) (ix4 0 (headAt t h) n e) := by
  refine (congrFun (entry₀ m c) (((cfg0.win 0).blk t).view.emb (ix4 0 h e n))).trans ?_
  pointwise
  blk_ext [idx t, headAt]

/-- A block of keys is its part of the argument, transposed. -/
theorem read₁ (c : Dev nD) (t : Fin cfg0.N) (h : Fin 2) (e : Fin 64) (n : Fin 2048) :
    (iblk m c 1 t : S1x2x64x2048.Idx → EReal) (ix4 0 h e n) = (m ((c : Thread nD τ).loc main_arg1) : Arr) (ix4 0 (headAt t h) n e) := by
  refine (congrFun (entry₁ m c) (((cfg0.win 1).blk t).view.emb (ix4 0 h e n))).trans ?_
  pointwise
  blk_ext [idx t, headAt]

/-- A block of values is its part of the argument, transposed. -/
theorem read₂ (c : Dev nD) (t : Fin cfg0.N) (h : Fin 2) (e : Fin 64) (n : Fin 2048) :
    (iblk m c 2 t : S1x2x64x2048.Idx → EReal) (ix4 0 h e n) = (m ((c : Thread nD τ).loc main_arg2) : Arr) (ix4 0 (headAt t h) n e) := by
  refine (congrFun (entry₂ m c) (((cfg0.win 2).blk t).view.emb (ix4 0 h e n))).trans ?_
  pointwise
  blk_ext [idx t, headAt]

/-- The whole output array, features before positions. -/
def outArray (q k v : Arr) : Vec Ideal S1x16x64x2048 .f32 := fun i => attnAt q k v (i 1) (i 3) (i 2)

/-- The output array after the run. -/
theorem final (c : Dev nD) : (dats m 0 c).arrAt 3 (cfgs 0).N = outArray (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  refine (point c _ _ _ _ _ _ _ _ _ _ _ _ y).trans ?_
  have e : outArray (m ((c : Thread nD τ).loc main_arg0)) (m ((c : Thread nD τ).loc main_arg1)) (m ((c : Thread nD τ).loc main_arg2))
      ((win0_3.blk t).view.emb y) = outArray (m ((c : Thread nD τ).loc main_arg0)) (m ((c : Thread nD τ).loc main_arg1))
        (m ((c : Thread nD τ).loc main_arg2)) (ix4 0 (headAt t (y 1)) (y 2) (y 3)) := by
    blk_ext [idx t, headAt]
  refine Eq.trans ?_ e.symm
  unfold blockOut outArray attnAt
  congr 1
  · funext i
    exact congrArg (· * _) (read₀ m c t (y 1) (i 0) (i 1))
  · funext i
    exact read₁ m c t (y 1) (i 0) (i 1)
  · funext i
    unfold values valuesOf
    exact dite_congr rfl (fun hi => read₂ m c t (y 1) ⟨_, hi⟩ (i 1)) fun _ => rfl

/-- The result after the run: the output array, transposed. -/
theorem result (c : Dev nD) : Pipeline.afterTail₀ cfgs (dats m) 0 (V0 m) [hostOps1] c main_v0
    = attn (m ((c : Thread nD τ).loc main_arg0)) (m ((c : Thread nD τ).loc main_arg1)) (m ((c : Thread nD τ).loc main_arg2)) := by
  have e : Pipeline.afterTail₀ cfgs (dats m) 0 (V0 m) [hostOps1] c main_v0
      = transpose S1x16x2048x64 [0, 1, 3, 2] (outArray (m ((c : Thread nD τ).loc main_arg0)) (m ((c : Thread nD τ).loc main_arg1))
        (m ((c : Thread nD τ).loc main_arg2))) transposes_S1x16x64x2048_S1x16x2048x64_0_1_3_2 := by
    unfold Pipeline.afterTail₀
    simp only [hostOps1, List.flatten_cons, List.flatten_nil, List.append_nil, List.cons_append, List.nil_append,
      StableHlo.TRef.unary, StableHlo.TRef.toBuf, StableHlo.TRef.ofBuf, cast_eq]
    after_results
    exact congrArg (fun a => transpose S1x16x2048x64 [0, 1, 3, 2] a transposes_S1x16x64x2048_S1x16x2048x64_0_1_3_2)
      ((Pipeline.withArrays_arr spec0 (by decide) c (V0 m c) (fun w => (dats m 0 c).arrAt w (cfgs 0).N) 3).trans (final m c))
  rw [e]
  funext i
  pointwise [outArray, attn]

end Cert.Attn

end
-- ==== Proof.RefMask.lean ====
/- Which keys the reference's mask keeps: its words, computed from position numbers, against `keep`. -/
module

public import proofs.«01_k».proof.Proof.Spec
public import proofs.«01_k».proof.Proof.Gen.ReferenceIdeal
public import proofs.«01_k».proof.Proof.Gen.ReferenceIdeal.Run
public import Idealize.ShloMosaic.Lib.WordCmp

@[expose] public section

set_option maxRecDepth 16384

noncomputable section

namespace Cert.Attn.Ref

open Idealize.ShloMosaic Idealize.ShloMosaic.TcCoe Idealize.SL.Sem
open Cert.ReferenceIdeal Cert.ReferenceIdeal.Gen

/-- A word at every position. -/
def every {w : ℕ} (x : IVec S_ w) : IVec S2048 w := broadcastInDim S2048 ![] bcast_S_S2048 x

/-- A vector over queries, at every key. -/
def along {w : ℕ} (x : IVec S2048 w) : IVec S2048x2048 w :=
  broadcastInDim S2048x2048 ![0, 1] bcast_S2048x1_S2048x2048_0_1 (broadcastInDim S2048x1 ![0] bcast_S2048_S2048x1_0 x)

/-- A vector over keys, at every query. -/
def across {w : ℕ} (x : IVec S2048 w) : IVec S2048x2048 w :=
  broadcastInDim S2048x2048 ![0, 1] bcast_S1x2048_S2048x2048_0_1 (broadcastInDim S1x2048 ![1] bcast_S2048_S1x2048_1 x)

/-- The position numbers. -/
def position : IVec S2048 32 := iotaInDim S2048 32 0

/-- Whether a position lies in the image. -/
def inImage : IVec S2048 1 := cmpi .sge position (every (constantI S_ 32 1024#32))

/-- The span of a position: 0 for the text, 1 for the image. -/
def span : IVec S2048 32 := extui 32 inImage natLt_1_32

/-- The position within the image. -/
def offset : IVec S2048 32 := subi position (every (constantI S_ 32 1024#32))

/-- The image's width. -/
def width : IVec S_ 32 := id (constantI S_ 32 32#32)

/-- The width, guarded against zero, as a remainder takes it. -/
def divisor : IVec S_ 32 := select (cmpi .eq width (constantI S_ 32 0#32)) (constantI S_ 32 1#32) width

/-- The pixel's row: the offset over the width, rounded down; zero in the text. -/
def pixelRow : IVec S2048 32 :=
  select inImage
    (select (andi (cmpi .ne (signi offset) (every (signi width)))
        (cmpi .ne (Host.remsi offset (every width)) (every (constantI S_ 32 0#32))))
      (subi (Host.divsi offset (every width)) (every (constantI S_ 32 1#32))) (Host.divsi offset (every width)))
    (every (id (constantI S_ 32 0#32)))

/-- The pixel's column: the offset modulo the width; zero in the text. -/
def pixelCol : IVec S2048 32 :=
  select inImage
    (select (andi (cmpi .ne (cmpi .slt (Host.remsi offset (every divisor)) (every (constantI S_ 32 0#32)))
          (every (cmpi .slt divisor (constantI S_ 32 0#32))))
        (cmpi .ne (Host.remsi offset (every divisor)) (every (constantI S_ 32 0#32))))
      (addi (Host.remsi offset (every divisor)) (every divisor)) (Host.remsi offset (every divisor)))
    (every (id (constantI S_ 32 0#32)))

/-- The difference of a coordinate of query and key, as a float. -/
def apart (x : IVec S2048 32) : FVec Ideal S2048x2048 .f32 := sitofp .f32 (subi (along x) (across x))

/-- Whether query and key are less than 2.5 apart. -/
def close : IVec S2048x2048 1 :=
  cmpf .olt (addf (mulf (apart pixelRow) (apart pixelRow)) (mulf (apart pixelCol) (apart pixelCol)))
    (broadcastInDim S2048x2048 ![] bcast_S_S2048x2048 (constant S_ .f32 0x40C80000#32))

/-- The mask: a later span's query, or the same span's in order (the image in any order) and close. -/
def mask : IVec S2048x2048 1 :=
  ori (cmpi .sgt (along span) (across span))
    (andi (andi (cmpi .eq (along span) (across span))
      (ori (along (cmpi .eq span (every (constantI S_ 32 1#32)))) (cmpi .sge (along position) (across position)))) close)

/-- The words at each position. -/
theorem words : ∀ n : Fin 2048, span (ix1 n) = BitVec.ofNat 32 (n.val / 1024) ∧ position (ix1 n) = BitVec.ofNat 32 n.val
    ∧ pixelRow (ix1 n) = BitVec.ofNat 32 (n.val / 1024 * ((n.val - 1024) / 32))
    ∧ pixelCol (ix1 n) = BitVec.ofNat 32 (n.val / 1024 * ((n.val - 1024) % 32)) := by
  decide +kernel

/-- `along` reads the query. -/
theorem along_apply {w : ℕ} (x : IVec S2048 w) (r c : Fin 2048) : along x (ix2 r c) = x (ix1 r) := by
  unfold along
  pointwise

/-- `across` reads the key. -/
theorem across_apply {w : ℕ} (x : IVec S2048 w) (r c : Fin 2048) : across x (ix2 r c) = x (ix1 c) := by
  unfold across
  pointwise

/-- The radius squared. -/
theorem radius : Ideal.ofBits .f32 0x40C80000#32 = ((6.25 : ℝ) : EReal) := by
  simp [Ideal.ofBits, Ideal.ieee, -EReal.coe_mul]
  norm_num

/-- The signed difference of two words below 32. -/
theorem apart_words : ∀ a b : Fin 32, (IntOp.subi (BitVec.ofNat 32 a.val) (BitVec.ofNat 32 b.val)).toInt = (a.val : ℤ) - b.val := by
  decide +kernel

/-- `apart` is the difference of the coordinates. -/
theorem apart_apply {x : IVec S2048 32} {r c : Fin 2048} {a b : ℕ} (ha : a < 32) (hb : b < 32) (hr : x (ix1 r) = BitVec.ofNat 32 a)
    (hc : x (ix1 c) = BitVec.ofNat 32 b) : apart x (ix2 r c) = ((((a : ℤ) - b : ℤ) : ℝ) : EReal) := by
  have e : apart x (ix2 r c) = (((IntOp.subi (along x (ix2 r c)) (across x (ix2 r c))).toInt : ℝ) : EReal) := rfl
  rw [e, along_apply, across_apply, hr, hc]
  exact congrArg (fun z : ℤ => ((z : ℝ) : EReal)) (apart_words ⟨a, ha⟩ ⟨b, hb⟩)

/-- For whole numbers, less than 6.25 is at most 6. -/
theorem close_words (x y : ℤ) :
    BitVec.ofBool (decide (((x : ℝ) : EReal) * ((x : ℝ) : EReal) + ((y : ℝ) : EReal) * ((y : ℝ) : EReal) < ((6.25 : ℝ) : EReal))) = 1#1 ↔
      x ^ 2 + y ^ 2 ≤ 6 := by
  have e : (((x : ℝ) : EReal) * ((x : ℝ) : EReal) + ((y : ℝ) : EReal) * ((y : ℝ) : EReal) < ((6.25 : ℝ) : EReal)) ↔ x ^ 2 + y ^ 2 ≤ 6 := by
    rw [← EReal.coe_mul, ← EReal.coe_mul, ← EReal.coe_add, EReal.coe_lt_coe_iff]
    constructor
    · intro h
      have h' : ((x ^ 2 + y ^ 2 : ℤ) : ℝ) < ((7 : ℤ) : ℝ) := by push_cast; nlinarith
      have := Int.cast_lt.1 h'
      omega
    · intro h
      have h' : ((x ^ 2 + y ^ 2 : ℤ) : ℝ) ≤ ((6 : ℤ) : ℝ) := Int.cast_le.2 h
      push_cast at h'
      nlinarith
  rw [← e]
  by_cases h : (((x : ℝ) : EReal) * ((x : ℝ) : EReal) + ((y : ℝ) : EReal) * ((y : ℝ) : EReal) < ((6.25 : ℝ) : EReal)) <;> simp [h]

/-- The row of a position's pixel, zero in the text. -/
def rowNat (n : ℕ) : ℕ := n / 1024 * ((n - 1024) / 32)

/-- The column of a position's pixel, zero in the text. -/
def colNat (n : ℕ) : ℕ := n / 1024 * ((n - 1024) % 32)

theorem rowNat_lt (n : Fin 2048) : rowNat n.val < 32 := by
  unfold rowNat
  have : n.val / 1024 = 0 ∨ n.val / 1024 = 1 := by omega
  rcases this with h | h <;> rw [h] <;> omega

theorem colNat_lt (n : Fin 2048) : colNat n.val < 32 := by
  unfold colNat
  have : n.val / 1024 = 0 ∨ n.val / 1024 = 1 := by omega
  rcases this with h | h <;> rw [h] <;> omega

/-- The reference's distance test. -/
theorem close_iff (r c : Fin 2048) : close (ix2 r c) = 1#1 ↔
    ((rowNat r.val : ℤ) - rowNat c.val) ^ 2 + ((colNat r.val : ℤ) - colNat c.val) ^ 2 ≤ 6 := by
  have e : close (ix2 r c) = BitVec.ofBool (decide (apart pixelRow (ix2 r c) * apart pixelRow (ix2 r c)
      + apart pixelCol (ix2 r c) * apart pixelCol (ix2 r c) < Ideal.ofBits .f32 0x40C80000#32)) := by
    unfold close
    pointwise
  rw [e, radius, apart_apply (rowNat_lt r) (rowNat_lt c) (words r).2.2.1 (words c).2.2.1,
    apart_apply (colNat_lt r) (colNat_lt c) (words r).2.2.2 (words c).2.2.2]
  exact close_words _ _

/-- Joining one-bit words is joining what they say. -/
theorem ori_iff : ∀ a b : BitVec 1, IntOp.ori a b = 1#1 ↔ a = 1#1 ∨ b = 1#1 := by decide

/-- Meeting one-bit words is meeting what they say. -/
theorem andi_iff : ∀ a b : BitVec 1, IntOp.andi a b = 1#1 ↔ a = 1#1 ∧ b = 1#1 := by decide

/-- The reference's mask keeps the keys that `keep` does. -/
theorem mask_iff (r c : Fin 2048) : mask (ix2 r c) = 1#1 ↔ keep r.val c.val := by
  have e : mask (ix2 r c) = IntOp.ori (IntOp.cmpi .sgt (along span (ix2 r c)) (across span (ix2 r c)))
      (IntOp.andi (IntOp.andi (IntOp.cmpi .eq (along span (ix2 r c)) (across span (ix2 r c)))
        (IntOp.ori (along (cmpi .eq span (every (constantI S_ 32 1#32))) (ix2 r c))
          (IntOp.cmpi .sge (along position (ix2 r c)) (across position (ix2 r c)))))
        (close (ix2 r c))) := rfl
  have o : cmpi .eq span (every (constantI S_ 32 1#32)) (ix1 r) = IntOp.cmpi .eq (span (ix1 r)) (BitVec.ofNat 32 1) := rfl
  have b : ∀ n : Fin 2048, n.val / 1024 < 2 ^ (32 - 1) := fun n => by norm_num; omega
  have b' : ∀ n : Fin 2048, n.val / 1024 < 2 ^ 32 := fun n => by norm_num; omega
  have p : ∀ n : Fin 2048, n.val < 2 ^ (32 - 1) := fun n => by norm_num; omega
  simp only [along_apply, across_apply] at e
  rw [e, o, ori_iff, andi_iff, andi_iff, ori_iff, close_iff, (words r).1, (words c).1, (words r).2.1, (words c).2.1,
    WordCmp.cmpi_sgt_ofNat_eq_one_iff (b r) (b c), WordCmp.cmpi_eq_ofNat_eq_one_iff (b' r) (b' c),
    WordCmp.cmpi_eq_ofNat_eq_one_iff (b' r) (by norm_num), WordCmp.cmpi_sge_ofNat_eq_one_iff (p r) (p c)]
  unfold keep near rowNat colNat
  have hr : r.val / 1024 = 0 ∧ r.val < 1024 ∨ r.val / 1024 = 1 ∧ 1024 ≤ r.val := by omega
  have hc : c.val / 1024 = 0 ∧ c.val < 1024 ∨ c.val / 1024 = 1 ∧ 1024 ≤ c.val := by omega
  rcases hr with ⟨hr, lr⟩ | ⟨hr, lr⟩ <;> rcases hc with ⟨hc, lc⟩ | ⟨hc, lc⟩ <;> rw [hr, hc] <;>
    simp only [zero_mul, one_mul] <;> simp [lr, lc, Nat.not_lt.2, Nat.not_le.2] <;> try omega

end Cert.Attn.Ref

end
-- ==== Proof.Softmax.lean ====
/- The softmax identity: weights e^(s − m) over their sum, against weights 2^(s / log 2) divided out at the end. -/
module

public import proofs.«01_k».proof.Proof.Spec

@[expose] public section

noncomputable section

namespace Cert.Attn

open Idealize.ShloMosaic

/-- A finite factor that is not negative moves out of a sum of any extended reals. -/
theorem sum_mul_of_nonneg {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih]
    exact EReal.right_distrib_of_nonneg_of_ne_top (by exact_mod_cast hx) (EReal.coe_ne_top x) _ _

/-- A sum of reals, as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division by a real that is not zero. -/
theorem div_coe (x : EReal) {y : ℝ} (hy : y ≠ 0) : Ideal.div x (y : EReal) = x * ((y⁻¹ : ℝ) : EReal) := by
  unfold Ideal.div
  rw [if_neg (by exact_mod_cast hy), EReal.coe_inv]

/-- The greatest of finitely many extended reals, none of them +∞ and some not −∞, is a real number. -/
theorem greatest_real {ι : Type*} (op : EReal → EReal → EReal) [Std.Commutative op] [Std.Associative op] (hop : ∀ x y, op x y = max x y)
    (z : EReal) (hz : z = ⊥) (s : Finset ι) (f : ι → EReal) (ht : ∀ i, f i ≠ ⊤) (hb : ∃ i ∈ s, f i ≠ ⊥) :
    ∃ M : ℝ, op z (s.fold op z f) = (M : EReal) := by
  obtain rfl : op = max := funext fun x => funext fun y => hop x y
  subst hz
  obtain ⟨i, hi, hb⟩ := hb
  rw [max_eq_right bot_le]
  change ∃ M : ℝ, s.sup f = (M : EReal)
  obtain ⟨b, _, e⟩ := Finset.exists_mem_eq_sup s ⟨i, hi⟩ f
  have hle := Finset.le_sup (f := f) hi
  rw [e] at hle ⊢
  exact ⟨(f b).toReal, (EReal.coe_toReal (ht b) fun h => hb (le_bot_iff.1 (h ▸ hle))).symm⟩

/-- e^x on the real scores less a real number, and nothing on −∞. -/
theorem exp_masked (K : Prop) [Decidable K] (S M : ℝ) :
    Ideal.exp ((if K then (S : EReal) else ⊥) - (M : EReal)) = (((if K then Real.exp S else 0) * Real.exp (-M) : ℝ) : EReal) := by
  by_cases h : K
  · rw [if_pos h, if_pos h, ← EReal.coe_sub, sub_eq_add_neg, ← Real.exp_add]
    rfl
  · rw [if_neg h, if_neg h, zero_mul]
    rfl

/-- The softmax-weighted sum of arbitrary values, with every weight shifted by `M` and divided on its own, is the sum weighted
    by e^S and divided once. -/
theorem softmax_sum {n : ℕ} (K : Fin n → Prop) [DecidablePred K] (S : Fin n → ℝ) (M : ℝ) (v : Fin n → EReal) (hK : ∃ c, K c) :
    ∑ c, Ideal.div (Ideal.exp ((if K c then (S c : EReal) else ⊥) - (M : EReal)))
        (∑ c', Ideal.exp ((if K c' then (S c' : EReal) else ⊥) - (M : EReal))) * v c =
      Ideal.div (∑ c, v c * (((if K c then Real.exp (S c) else 0) : ℝ) : EReal))
        (∑ c, 1 * (((if K c then Real.exp (S c) else 0) : ℝ) : EReal)) := by
  set u : Fin n → ℝ := fun c => if K c then Real.exp (S c) else 0 with hu
  have u₀ : ∀ c, 0 ≤ u c := fun c => by
    simp only [hu]
    split
    · exact (Real.exp_pos _).le
    · exact le_rfl
  have z₀ : 0 < ∑ c, u c := by
    obtain ⟨c, hc⟩ := hK
    refine Finset.sum_pos' (fun c _ => u₀ c) ⟨c, Finset.mem_univ c, ?_⟩
    simp only [hu, if_pos hc]
    exact Real.exp_pos _
  have e₀ := Real.exp_pos (-M)
  simp only [exp_masked, one_mul]
  change ∑ c, Ideal.div ((u c * Real.exp (-M) : ℝ) : EReal) (∑ c', ((u c' * Real.exp (-M) : ℝ) : EReal)) * v c =
    Ideal.div (∑ c, v c * ((u c : ℝ) : EReal)) (∑ c, ((u c : ℝ) : EReal))
  rw [coe_sum, coe_sum, ← Finset.sum_mul, div_coe _ z₀.ne', sum_mul_of_nonneg _ _ (inv_nonneg.2 z₀.le)]
  refine Finset.sum_congr rfl fun c _ => ?_
  rw [div_coe _ (mul_pos z₀ e₀).ne', ← EReal.coe_mul, mul_comm _ (v c), mul_assoc (v c), ← EReal.coe_mul]
  refine congrArg (fun x : ℝ => v c * (x : EReal)) ?_
  rw [mul_inv]
  field_simp

end Cert.Attn

end
-- ==== Proof.RefValue.lean ====
/- What the reference computes at one head, query and feature, over arbitrary arrays. -/
module

public import proofs.«01_k».proof.Proof.RefMask
public import proofs.«01_k».proof.Proof.Heads
public import proofs.«01_k».proof.Proof.Softmax
public import Idealize.ShloMosaic.PureOps.Reduce
public import Idealize.ShloMosaic.PureOps.Ideal.Laws

@[expose] public section

set_option maxRecDepth 16384

noncomputable section

namespace Cert.Attn.Ref

open Idealize.ShloMosaic Idealize.ShloMosaic.TcCoe Idealize.SL.Sem
open Cert.ReferenceIdeal Cert.ReferenceIdeal.Gen

/-- The scaled scores. -/
def scores (q k : FVec Ideal S1x16x2048x64 .f32) : FVec Ideal S1x16x2048x2048 .f32 :=
  mulf (Host.dotGeneral dot_S1x16x2048x64_S1x16x2048x64_S1x16x2048x2048_3_3_2_2_01_01 none q k)
    (broadcastInDim S1x16x2048x2048 ![] bcast_S_S1x16x2048x2048
      (Host.divf (constant S_ .f32 0x3F800000#32) (Host.sqrt (constant S_ .f32 0x42800000#32))))

/-- The scores of the kept keys, −∞ elsewhere. -/
def masked (s : FVec Ideal S1x16x2048x2048 .f32) : FVec Ideal S1x16x2048x2048 .f32 :=
  select (broadcastInDim S1x16x2048x2048 ![0, 1, 2, 3] bcast_S1x1x2048x2048_S1x16x2048x2048_0_1_2_3
      (broadcastInDim S1x1x2048x2048 ![2, 3] bcast_S2048x2048_S1x1x2048x2048_2_3 mask))
    s (broadcastInDim S1x16x2048x2048 ![] bcast_S_S1x16x2048x2048 (id (constant S_ .f32 0xFF800000#32)))

/-- A value per query, at every key. -/
def spread (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)

/-- The greatest score of each query. -/
def greatest (s : FVec Ideal S1x16x2048x2048 .f32) : FVec Ideal S1x16x2048 .f32 :=
  maximumf (broadcastInDim S1x16x2048 ![] bcast_S_S1x16x2048 (constant S_ .f32 0xFF800000#32))
    (Host.reduce FloatOps.maximumf s (constant S_ .f32 0xFF800000#32) reducesTo_S1x16x2048x2048_S1x16x2048_d3 h_S_)

/-- The exponentials of the scores, less the greatest. -/
def parts (s : FVec Ideal S1x16x2048x2048 .f32) : FVec Ideal S1x16x2048x2048 .f32 := Host.exp (subf s (spread (greatest s)))

/-- Each query's row, over its sum. -/
def shares (p : FVec Ideal S1x16x2048x2048 .f32) : FVec Ideal S1x16x2048x2048 .f32 :=
  Host.divf p (spread (Host.reduceAdd p (constant S_ .f32 0x00000000#32) reducesTo_S1x16x2048x2048_S1x16x2048_d3 h_S_))

/-- The reference's result. -/
def out (q k v : FVec Ideal S1x16x2048x64 .f32) : FVec Ideal S1x16x2048x64 .f32 :=
  Host.dotGeneral dot_S1x16x2048x2048_S1x16x2048x64_S1x16x2048x64_3_2_2_3_01_01 none
    (shares (parts (masked (scores q k)))) v

/-- 1 / √64. -/
theorem eighth : Ideal.div (Ideal.ofBits .f32 0x3F800000#32) (Ideal.sqrt (Ideal.ofBits .f32 0x42800000#32)) = ((1 / 8 : ℝ) : EReal) := by
  have h : Ideal.ofBits .f32 0x42800000#32 = ((64 : ℝ) : EReal) := by
    simp [Ideal.ofBits, Ideal.ieee, -EReal.coe_mul]
    norm_num
  have h' : Real.sqrt 64 = 8 := by
    rw [show (64 : ℝ) = 8 ^ 2 by norm_num]
    exact Real.sqrt_sq (by norm_num)
  have h'' : Ideal.sqrt ((64 : ℝ) : EReal) = ((8 : ℝ) : EReal) := by
    show (if (64 : ℝ) < 0 then (⊥ : EReal) else ((Real.sqrt 64 : ℝ) : EReal)) = _
    rw [if_neg (by norm_num), h']
  have h₃ : Ideal.ofBits .f32 0x3F800000#32 = ((1 : ℝ) : EReal) := by
    simp [Ideal.ofBits, Ideal.ieee, -EReal.coe_mul]
    norm_num
  rw [h, h'', h₃]
  unfold Ideal.div
  rw [if_neg (by norm_cast), ← EReal.coe_inv, ← EReal.coe_mul]
  norm_num

/-- A score. -/
theorem scores_apply (q k : FVec Ideal S1x16x2048x64 .f32) (h : Fin 16) (r c : Fin 2048) :
    scores q k (ix4 0 h r c) = (∑ e : Fin 64, q (ix4 0 h r e) * k (ix4 0 h c e)) * ((1 / 8 : ℝ) : EReal) := by
  rw [← eighth]
  unfold scores
  pointwise

/-- A masked score. -/
theorem masked_apply (s : FVec Ideal S1x16x2048x2048 .f32) (h : Fin 16) (r c : Fin 2048) :
    masked s (ix4 0 h r c) = if keep r.val c.val then s (ix4 0 h r c) else ⊥ := by
  have b : Ideal.ofBits .f32 0xFF800000#32 = ⊥ := by simp [Ideal.ofBits, Ideal.ieee]
  rw [← b]
  refine Eq.trans ?_ (if_congr (mask_iff r c) rfl rfl)
  unfold masked
  pointwise
  rfl

/-- A value per query does not depend on the key. -/
theorem spread_apply (x : FVec Ideal S1x16x2048 .f32) (h : Fin 16) (r c : Fin 2048) : spread x (ix4 0 h r c) = x (ix3 0 h r) := by
  unfold spread
  pointwise

/-- The reduction's index of a score is its head and query. -/
theorem drop_key (d : S1x16x2048x2048.ReducesTo [3] S1x16x2048) (h : Fin 16) (r c : Fin 2048) : d.drop (ix4 0 h r c) = ix3 0 h r := by
  funext a
  match a with
  | ⟨0, _⟩ => exact Fin.ext (Shape.ReducesTo.drop_apply_val_of_eq d (ix4 0 h r c) 0 0)
  | ⟨1, _⟩ => exact Fin.ext (Shape.ReducesTo.drop_apply_val_of_eq d (ix4 0 h r c) 1 1)
  | ⟨2, _⟩ => exact Fin.ext (Shape.ReducesTo.drop_apply_val_of_eq d (ix4 0 h r c) 2 2)

/-- A maximum along the keys, from −∞, is a real number when no entry is +∞ and one is not −∞. -/
theorem reduce_real (d : S1x16x2048x2048.ReducesTo [3] S1x16x2048) (s : FVec Ideal S1x16x2048x2048 .f32) (z : FVec Ideal S_ .f32)
    (hz : z (Shape.Idx.first h_S_) = (⊥ : EReal)) (h : Fin 16) (r : Fin 2048) (ht : ∀ i, s i ≠ (⊤ : EReal))
    (hb : s (ix4 0 h r r) ≠ (⊥ : EReal)) :
    ∃ M : ℝ, FloatOps.maximumf (F := Ideal) (φ := .f32) (z (Shape.Idx.first h_S_)) (Host.reduce FloatOps.maximumf s z d h_S_ (ix3 0 h r)) = (M : EReal) := by
  rw [Host.reduce_eq_fold]
  exact greatest_real (FloatOps.maximumf (F := Ideal) (φ := .f32)) (fun _ _ => rfl) _ hz _ s ht
    ⟨ix4 0 h r r, Finset.mem_filter.2 ⟨Finset.mem_univ _, drop_key d h r r⟩, hb⟩

/-- The greater of two arrays, at an index. -/
theorem greater_apply (x y : FVec Ideal S1x16x2048 .f32) (i : S1x16x2048.Idx) :
    maximumf x y i = FloatOps.maximumf (F := Ideal) (φ := .f32) (x i) (y i) := rfl

/-- A number at every query. -/
theorem number_apply (z : FVec Ideal S_ .f32) (i : S1x16x2048.Idx) :
    broadcastInDim S1x16x2048 ![] bcast_S_S1x16x2048 z i = z (Shape.Idx.first h_S_) :=
  congrArg z (funext fun a => a.elim0)

/-- The greatest score of a query is a real number when no score is +∞ and its own is not −∞. -/
theorem greatest_apply (s : FVec Ideal S1x16x2048x2048 .f32) (h : Fin 16) (r : Fin 2048) (ht : ∀ i, s i ≠ (⊤ : EReal))
    (hb : s (ix4 0 h r r) ≠ (⊥ : EReal)) : ∃ M : ℝ, greatest s (ix3 0 h r) = (M : EReal) := by
  have b : constant (F := Ideal) S_ .f32 0xFF800000#32 (Shape.Idx.first h_S_) = (⊥ : EReal) := by
    refine (rfl : _ = Ideal.ofBits .f32 0xFF800000#32).trans ?_
    simp [Ideal.ofBits, Ideal.ieee]
  unfold greatest
  rw [greater_apply, number_apply]
  exact reduce_real reducesTo_S1x16x2048x2048_S1x16x2048_d3 s (constant S_ .f32 0xFF800000#32) b h r ht hb

/-- A share. -/
theorem shares_apply (p : FVec Ideal S1x16x2048x2048 .f32) (h : Fin 16) (r c : Fin 2048) :
    shares p (ix4 0 h r c) = Ideal.div (p (ix4 0 h r c)) (∑ c' : Fin 2048, p (ix4 0 h r c')) := by
  unfold shares
  pointwise [spread]

/-- The result. -/
theorem out_apply (q k v : FVec Ideal S1x16x2048x64 .f32) (h : Fin 16) (r : Fin 2048) (d : Fin 64) :
    out q k v (ix4 0 h r d) = ∑ c : Fin 2048, shares (parts (masked (scores q k))) (ix4 0 h r c) * v (ix4 0 h c d) := by
  unfold out
  pointwise

end Cert.Attn.Ref

end
-- ==== Proof.Equation.lean ====
/- The reference's result is the array of Proof/Heads.lean when every query and key is a real number. -/
module

public import proofs.«01_k».proof.Proof.RefValue

@[expose] public section

set_option maxRecDepth 16384

noncomputable section

namespace Cert.Attn.Ref

open Idealize.ShloMosaic

/-- A query keeps itself. -/
theorem keep_self (r : ℕ) : keep r r := by
  unfold keep near
  by_cases h : r < 1024
  · exact Or.inl ⟨h, Or.inr le_rfl⟩
  · exact Or.inr ⟨by omega, by omega, by simp⟩

/-- 2 to a score scaled by 1 / (8 log 2) is e to the score over 8. -/
theorem exp2_scaled (x : ℝ) : Ideal.exp2 ((x * (8 * Real.log 2)⁻¹ : ℝ) : EReal) = ((Real.exp (x * (1 / 8)) : ℝ) : EReal) := by
  have hl : Real.log 2 ≠ 0 := (Real.log_pos (by norm_num)).ne'
  show ((Real.rpow 2 (x * (8 * Real.log 2)⁻¹) : ℝ) : EReal) = _
  refine congrArg _ ?_
  refine (Real.rpow_def_of_pos (by norm_num) _).trans (congrArg Real.exp ?_)
  field_simp

/-- An array less its greatest scores, exponentiated, at an index. -/
theorem parts_apply (s x : FVec Ideal Cert.ReferenceIdeal.S1x16x2048x2048 .f32) (i : Cert.ReferenceIdeal.S1x16x2048x2048.Idx) :
    Host.exp (subf s x) i = Ideal.exp (s i - x i) := rfl

/-- A score of real queries and keys. -/
def scoreAt (Q K : (⟨4, ![1, 16, 2048, 64]⟩ : Shape).Idx → ℝ) (h : Fin 16) (r c : Fin 2048) : ℝ :=
  (∑ e : Fin 64, Q (ix4 0 h r e) * K (ix4 0 h c e)) * (1 / 8)

/-- Real arrays, as arrays of extended reals. -/
def lift (Q : (⟨4, ![1, 16, 2048, 64]⟩ : Shape).Idx → ℝ) : Arr := fun i => (Q i : EReal)

/-- The reference's score of real queries and keys. -/
theorem scores_real (Q K : (⟨4, ![1, 16, 2048, 64]⟩ : Shape).Idx → ℝ) (h : Fin 16) (r c : Fin 2048) :
    scores (lift Q) (lift K) (ix4 0 h r c) = ((scoreAt Q K h r c : ℝ) : EReal) := by
  rw [scores_apply, scoreAt, EReal.coe_mul, ← coe_sum]
  simp only [lift, EReal.coe_mul]

/-- The weight of a key, of real queries and keys. -/
theorem weight_real (Q K : (⟨4, ![1, 16, 2048, 64]⟩ : Shape).Idx → ℝ) (h : Fin 16) (r c : Fin 2048) :
    weight (scaledOf (lift Q) h) (keysOf (lift K) h) r c
      = (((if keep r.val c.val then Real.exp (scoreAt Q K h r c) else 0) : ℝ) : EReal) := by
  have e : score (scaledOf (lift Q) h) (keysOf (lift K) h) r c
      = (((∑ e : Fin 64, Q (ix4 0 h r e) * K (ix4 0 h c e)) * (8 * Real.log 2)⁻¹ : ℝ) : EReal) := by
    rw [Finset.sum_mul, ← coe_sum]
    refine Finset.sum_congr rfl fun e _ => ?_
    show ((Q (ix4 0 h r e) : ℝ) : EReal) * (((8 * Real.log 2)⁻¹ : ℝ) : EReal) * ((K (ix4 0 h c e) : ℝ) : EReal) = _
    rw [← EReal.coe_mul, ← EReal.coe_mul]
    exact congrArg _ (by ring)
  unfold weight
  rw [e, exp2_scaled]
  split
  · rfl
  · rfl

/-- The masked scores of real queries and keys. -/
theorem masked_real (Q K : (⟨4, ![1, 16, 2048, 64]⟩ : Shape).Idx → ℝ) (h : Fin 16) (r c : Fin 2048) :
    masked (scores (lift Q) (lift K)) (ix4 0 h r c) = if keep r.val c.val then ((scoreAt Q K h r c : ℝ) : EReal) else ⊥ := by
  rw [masked_apply, scores_real]

/-- An index of a score is its head, query and key. -/
theorem score_idx (i : Cert.ReferenceIdeal.S1x16x2048x2048.Idx) :
    ∃ (h : Fin 16) (r c : Fin 2048), i = ix4 0 h r c := by
  refine ⟨i 1, i 2, i 3, funext fun a => ?_⟩
  match a with
  | ⟨0, _⟩ => exact Fin.ext (Nat.lt_one_iff.1 (i 0).isLt)
  | ⟨1, _⟩ => rfl
  | ⟨2, _⟩ => rfl
  | ⟨3, _⟩ => rfl

/-- An index of the result is its head, query and feature. -/
theorem out_idx (i : (⟨4, ![1, 16, 2048, 64]⟩ : Shape).Idx) : i = ix4 0 (i 1) (i 2) (i 3) := by
  funext a
  match a with
  | ⟨0, _⟩ => exact Fin.ext (Nat.lt_one_iff.1 (i 0).isLt)
  | ⟨1, _⟩ => rfl
  | ⟨2, _⟩ => rfl
  | ⟨3, _⟩ => rfl

/-- Each query's greatest score is a real number. -/
theorem greatest_of_real (Q K : (⟨4, ![1, 16, 2048, 64]⟩ : Shape).Idx → ℝ) (h : Fin 16) (r : Fin 2048) :
    ∃ M : ℝ, greatest (masked (scores (lift Q) (lift K))) (ix3 0 h r) = (M : EReal) := by
  refine greatest_apply _ h r (fun i => ?_) ?_
  · obtain ⟨h', r', c', rfl⟩ := score_idx i
    rw [masked_real]
    split
    · exact EReal.coe_ne_top _
    · exact bot_ne_top
  · rw [masked_real, if_pos (keep_self _)]
    exact EReal.coe_ne_bot _

/-- The exponentials of a query's scores, less the greatest `M`. -/
theorem parts_real (Q K : (⟨4, ![1, 16, 2048, 64]⟩ : Shape).Idx → ℝ) (h : Fin 16) (r c : Fin 2048) (M : ℝ)
    (hM : greatest (masked (scores (lift Q) (lift K))) (ix3 0 h r) = (M : EReal)) :
    parts (masked (scores (lift Q) (lift K))) (ix4 0 h r c)
      = Ideal.exp ((if keep r.val c.val then ((scoreAt Q K h r c : ℝ) : EReal) else ⊥) - (M : EReal)) := by
  unfold parts
  rw [parts_apply, spread_apply, hM, masked_real]

/-- A value below row 64 of the head's values. -/
theorem values_apply (v : Arr) (h : Fin 16) (d : Fin 64) (c : Fin 2048) :
    valuesOf v h (ix2 (d.castLE (by decide)) c) = v (ix4 0 h c d) :=
  dif_pos d.isLt

/-- Row 64 of the head's values is ones. -/
theorem ones_apply (v : Arr) (h : Fin 16) (c : Fin 2048) : valuesOf v h (ix2 64 c) = 1 :=
  dif_neg (lt_irrefl 64)

/-- The result of the reference at real queries and keys. -/
theorem out_real (Q K : (⟨4, ![1, 16, 2048, 64]⟩ : Shape).Idx → ℝ) (v : Arr) (h : Fin 16) (r : Fin 2048) (d : Fin 64) :
    out (lift Q) (lift K) v (ix4 0 h r d) = attnAt (lift Q) (lift K) v h r d := by
  obtain ⟨M, hM⟩ := greatest_of_real Q K h r
  have e := softmax_sum (fun c : Fin 2048 => keep r.val c.val) (fun c => scoreAt Q K h r c) M (fun c => v (ix4 0 h c d)) ⟨r, keep_self _⟩
  rw [out_apply]
  unfold attnAt headOut mass
  simp only [shares_apply, parts_real Q K h r _ M hM, values_apply, ones_apply, weight_real]
  exact e

/-- The reference's result is the attention of its arguments when every query and key is a real number. -/
theorem out_eq (q k v : Arr) (hq : ∀ i, ∃ x : ℝ, q i = (x : EReal)) (hk : ∀ i, ∃ x : ℝ, k i = (x : EReal)) : out q k v = attn q k v := by
  choose Q hQ using hq
  choose K hK using hk
  obtain rfl : q = lift Q := funext hQ
  obtain rfl : k = lift K := funext hK
  funext i
  rw [out_idx i]
  exact out_real Q K v (i 1) (i 2) (i 3)

end Cert.Attn.Ref

end
-- ==== Proof.Finite.lean ====
/- What the precondition says: every query and every key is a real number. -/
module

public import proofs.«01_k».proof.Pre_finite_qk
public import proofs.«01_k».proof.Proof.Gen.Pre_finite_qk
public import Idealize.ShloMosaic.PureOps.Reduce
public import Idealize.ShloMosaic.PureOps.Ideal.Laws

@[expose] public section

set_option maxRecDepth 16384

noncomputable section

namespace Cert.Attn.Finite

open Idealize.ShloMosaic Cert.Pre_finite_qk Cert.Pre_finite_qk.Facts

/-- Both of two bits are 1 when their conjunction is. -/
theorem both (a b : BitVec 1) (h : IntOp.andi a b = 1#1) : a = 1#1 ∧ b = 1#1 := by
  revert a b
  decide

/-- A conjunction over a set is 1 only if each of its bits is. -/
theorem each {ι : Type*} [DecidableEq ι] (s : Finset ι) (z : BitVec 1) (f : ι → BitVec 1) (h : s.fold IntOp.andi z f = 1#1) :
    ∀ i ∈ s, f i = 1#1 := by
  induction s using Finset.induction_on with
  | empty => exact fun i hi => absurd hi (Finset.notMem_empty i)
  | insert a s ha ih =>
    rw [Finset.fold_insert ha] at h
    have hb := both _ _ h
    intro i hi
    rcases Finset.mem_insert.1 hi with rfl | hi
    · exact hb.1
    · exact ih hb.2 i hi

/-- A conjunction over a whole array is 1 only if each of its entries is. -/
theorem all_of_reduce [Facts] (x : IVec S1x16x2048x64 1) (z : IVec S_ 1) (d : S1x16x2048x64.ReducesTo [0, 1, 2, 3] S_) (j : S_.Idx)
    (h : Host.reduce IntOp.andi x z d h_S_ j = 1#1) (i : S1x16x2048x64.Idx) : x i = 1#1 := by
  classical
  rw [Host.reduce_eq_fold] at h
  exact each _ _ _ h i (Finset.mem_filter.2 ⟨Finset.mem_univ _, funext fun a => a.elim0⟩)

/-- An extended real whose absolute value is below +∞ is a real number. -/
theorem real_of_abs (x : EReal) (h : Ideal.cmp .olt (max x (-x)) (Ideal.ofBits .f32 0x7F800000#32) = 1#1) : ∃ y : ℝ, x = (y : EReal) := by
  have t : Ideal.ofBits .f32 0x7F800000#32 = ⊤ := by simp [Ideal.ofBits, Ideal.ieee]
  rw [t] at h
  induction x using EReal.rec with
  | bot => exact absurd h (by simp [Ideal.cmp])
  | coe y => exact ⟨y, rfl⟩
  | top => exact absurd h (by simp [Ideal.cmp])

/-- Where the comparison of the absolute values with +∞ holds, the entry is a real number. -/
theorem real_of_cmp [Facts] (x : FVec Ideal S1x16x2048x64 .f32) (i : S1x16x2048x64.Idx)
    (h : cmpf .olt (Host.absf x) (broadcastInDim S1x16x2048x64 ![] bcast_S_S1x16x2048x64 (constant S_ .f32 0x7F800000#32)) i = 1#1) :
    ∃ y : ℝ, x i = (y : EReal) :=
  real_of_abs (x i) h

/-- The conjunction of two bit arrays, at an index. -/
theorem and_apply (x y : IVec S_ 1) (i : S_.Idx) : andi x y i = IntOp.andi (x i) (y i) := rfl

/-- Under the precondition every query and every key is a real number. -/
theorem reals [Facts] (q k v : FVec Ideal S1x16x2048x64 .f32) (h : fn q k v = fun _ => 1#1) :
    (∀ i, ∃ x : ℝ, q i = (x : EReal)) ∧ ∀ i, ∃ x : ℝ, k i = (x : EReal) := by
  have h₁ := congrFun h (Shape.Idx.first h_S_)
  unfold fn at h₁
  rw [and_apply] at h₁
  have hb := both _ _ h₁
  exact ⟨fun i => real_of_cmp q i (all_of_reduce _ _ _ _ hb.1 i), fun i => real_of_cmp k i (all_of_reduce _ _ _ _ hb.2 i)⟩

end Cert.Attn.Finite

end
-- ==== Proof.RefRun.lean ====
/- The reference's run ends with the array that Proof/RefValue.lean reads. -/
module

public import proofs.«01_k».proof.Proof.RefValue

@[expose] public section

set_option maxRecDepth 16384

noncomputable section

namespace Cert.Attn.Ref

open Idealize.ShloMosaic Idealize.ShloMosaic.TcCoe Idealize.SL.Sem
open Cert.ReferenceIdeal Cert.ReferenceIdeal.Gen

/-- The reference's run ends with `out` of its arguments. -/
theorem run_out (m : (ℓ : Loc nD τ sig) → Buf (Elt Ideal) ℓ) (c : Dev nD) :
    Cert.ReferenceIdeal.Value.res_main_v74 m c = out (m ((c.tc : Thread nD τ).loc main_arg0)) (m ((c.tc : Thread nD τ).loc main_arg1))
      (m ((c.tc : Thread nD τ).loc main_arg2)) := by
  unfold Cert.ReferenceIdeal.Value.res_main_v74
  rfl

end Cert.Attn.Ref

end
-- ==== Proof.Algebraic.lean ====
/- The kernel's and the reference's results are equal over extended reals, when every query and key is a real number. -/
module

public import proofs.«01_k».proof.Defs
public import proofs.«01_k».proof.Proof.Array
public import proofs.«01_k».proof.Proof.Equation
public import proofs.«01_k».proof.Proof.Finite
public import proofs.«01_k».proof.Proof.RefRun
public import proofs.«01_k».proof.Proof.Gen.ReferenceIdeal.Run
public import Idealize.ShloMosaic.Lib.Claim

@[expose] public section

set_option maxRecDepth 16384

noncomputable section

namespace Cert.Claims

open Idealize.ShloMosaic Idealize.SL.Sem

/-- The reference ends with the attention of its arguments, when its queries and keys are real numbers. -/
theorem reference_result (m : (ℓ : Loc Cert.ReferenceIdeal.nD Cert.ReferenceIdeal.τ Cert.ReferenceIdeal.sig) → Buf (Elt Ideal) ℓ)
    (c : Dev Cert.ReferenceIdeal.nD) (q k v : Cert.Attn.Arr)
    (h₀ : m ((c.tc : Thread Cert.ReferenceIdeal.nD Cert.ReferenceIdeal.τ).loc Cert.ReferenceIdeal.main_arg0) = q)
    (h₁ : m ((c.tc : Thread Cert.ReferenceIdeal.nD Cert.ReferenceIdeal.τ).loc Cert.ReferenceIdeal.main_arg1) = k)
    (h₂ : m ((c.tc : Thread Cert.ReferenceIdeal.nD Cert.ReferenceIdeal.τ).loc Cert.ReferenceIdeal.main_arg2) = v)
    (hq : ∀ i, ∃ x : ℝ, q i = (x : EReal)) (hk : ∀ i, ∃ x : ℝ, k i = (x : EReal)) :
    Cert.ReferenceIdeal.Value.res_main_v74 m c = Cert.Attn.attn q k v := by
  rw [Cert.Attn.Ref.run_out, h₀, h₁, h₂]
  exact Cert.Attn.Ref.out_eq q k v hq hk

/-- From equal arguments whose queries and keys are finite, the kernel and the reference end with equal results. -/
theorem results_agree : Cert.algebraic_KernelIdeal_ReferenceIdeal_pre_finite_qk := by
  intro m g m' g' hpre hagree
  refine ⟨fun c => Cert.Attn.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine θ_run_mono (θ_run_and (Cert.KernelIdeal.Gen.unchanged m g) (Cert.KernelIdeal.Gen.run_main m g)) fun r h c => ?_
    refine ⟨?_, h.1 c⟩
    exact ((h.2 c).2 Cert.KernelIdeal.main_v0 (Pipeline.mem_restRefs_of Cert.KernelIdeal.main_v0 (by decide) (by decide))).trans
      (Cert.Attn.result m c)
  · refine θ_run_mono (Cert.ReferenceIdeal.Value.run m' g') fun r h c => ⟨(h c).1.trans ?_, (h c).2⟩
    have f := Cert.Attn.Finite.reals _ _ _ (hpre c)
    exact reference_result m' c _ _ _ (hagree c).1 (hagree c).2.1 (hagree c).2.2 f.1 f.2

end Cert.Claims

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite_qk
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_qk.Gen.facts,
    Cert.Claims.kernel_runs, Cert.Claims.ideal_runs, fun m ρ _ => Cert.Claims.ideal_runs m ρ trivial,
    Cert.Claims.reference_runs, fun m ρ _ => Cert.Claims.reference_runs m ρ trivial, Cert.Claims.names_hold,
    Cert.Claims.results_agree⟩

end Cert.Proof

end
